-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x16 .f32) (main_arg2 : IVec S512x1 32) (main_arg3 : FVec F S2x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 16#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x16 .f32) (main_arg2 : IVec S512x1 32) (main_arg3 : FVec F S16x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 16#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S512x512 : Shape := ⟨2, ![512, 512]⟩
abbrev S8x50x512 : Shape := ⟨3, ![8, 50, 512]⟩
abbrev S4 : Shape := ⟨1, ![4]⟩
abbrev S7 : Shape := ⟨1, ![7]⟩
abbrev S_ : Shape := ⟨0, ![]⟩
abbrev S1 : Shape := ⟨1, ![1]⟩
abbrev S512x16 : Shape := ⟨2, ![512, 16]⟩
abbrev S512x50 : Shape := ⟨2, ![512, 50]⟩
abbrev S512 : Shape := ⟨1, ![512]⟩
abbrev S50x256 : Shape := ⟨2, ![50, 256]⟩
abbrev S25x256 : Shape := ⟨2, ![25, 256]⟩
abbrev S1x256x512 : Shape := ⟨3, ![1, 256, 512]⟩
abbrev S256x512 : Shape := ⟨2, ![256, 512]⟩
abbrev S25x512 : Shape := ⟨2, ![25, 512]⟩
abbrev S50x512 : Shape := ⟨2, ![50, 512]⟩
abbrev S1x50x512 : Shape := ⟨3, ![1, 50, 512]⟩
abbrev S512x200 : Shape := ⟨2, ![512, 200]⟩
abbrev S200x512 : Shape := ⟨2, ![200, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S8x50x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v83 : Index := Scalar.indexCast v2
  let c0_41 : Index := 0#32
  let c0_42 : Index := 0#32
  ![v83.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let c0_i32_50 : BitVec 32 := 0#32
  ![v2.toNat, 0, 0]
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_44 : BitVec 32 := 6#32
  let v87 : BitVec 32 := Scalar.xori v2 c6_i32_44
  let c1_i32_47 : BitVec 32 := 1#32
  let v88 : BitVec 32 := Scalar.muli v87 c1_i32_47
  let v89 : BitVec 32 := Scalar.addi c0_i32_48 v88
  v89.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v96 : BitVec 32 := Scalar.xori v2 c2_i32_53
  let c1_i32_56 : BitVec 32 := 1#32
  let v97 : BitVec 32 := Scalar.muli v96 c1_i32_56
  let v98 : BitVec 32 := Scalar.addi c0_i32_57 v97
  v98.toNat
def k0_dev10 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_62 : BitVec 32 := 5#32
  let v105 : BitVec 32 := Scalar.xori v2 c5_i32_62
  let c1_i32_65 : BitVec 32 := 1#32
  let v106 : BitVec 32 := Scalar.muli v105 c1_i32_65
  let v107 : BitVec 32 := Scalar.addi c0_i32_66 v106
  v107.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_71 : BitVec 32 := 7#32
  let v114 : BitVec 32 := Scalar.xori v2 c7_i32_71
  let c1_i32_74 : BitVec 32 := 1#32
  let v115 : BitVec 32 := Scalar.muli v114 c1_i32_74
  let v116 : BitVec 32 := Scalar.addi c0_i32_75 v115
  v116.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_80 : BitVec 32 := 1#32
  let v123 : BitVec 32 := Scalar.xori v2 c1_i32_80
  let c1_i32_83 : BitVec 32 := 1#32
  let v124 : BitVec 32 := Scalar.muli v123 c1_i32_83
  let v125 : BitVec 32 := Scalar.addi c0_i32_84 v124
  v125.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_89 : BitVec 32 := 3#32
  let v132 : BitVec 32 := Scalar.xori v2 c3_i32_89
  let c1_i32_92 : BitVec 32 := 1#32
  let v133 : BitVec 32 := Scalar.muli v132 c1_i32_92
  let v134 : BitVec 32 := Scalar.addi c0_i32_93 v133
  v134.toNat
def k0_dev14 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v141 : BitVec 32 := Scalar.xori v2 c4_i32_98
  let c1_i32_101 : BitVec 32 := 1#32
  let v142 : BitVec 32 := Scalar.muli v141 c1_i32_101
  let v143 : BitVec 32 := Scalar.addi c0_i32_102 v142
  v143.toNat
def k0_off3 (d0 : Dev nD) (c1_i32_107 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v150 : BitVec 32 := Scalar.xori v2 c1_i32_107
  let v244 : Index := Scalar.indexCast v150
  let c0_148 : Index := 0#32
  let c0_149 : Index := 0#32
  ![v244.toNat, 0, 0]
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x256x512, .f32⟩
  | .hbm, ⟨29, _⟩ => ⟨S512x512, .f32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x512, .i1⟩
  | .hbm, ⟨37, _⟩ => ⟨S512x512, .f32⟩
  | .hbm, ⟨38, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Places.lean ====
/-
# 01_k — `Places`: the devices a device talks to, its buffers, its semaphores, and the slots of the gathering buffer

Device `c` of the eight talks to the seven devices `px c k = c xor (k + 1)`. Its gathering buffer has one slot of
50 rows per device; slot `p` will hold what device `p` computed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI

variable {F : FTy → Type} [FloatOps F]

/-! ## The seven peers -/

/-- The `k`-th peer of device `c`: the device whose number is `c xor (k + 1)`. -/
def px (c : Dev nD) (k : Fin 7) : Dev nD :=
  ⟨c.val ^^^ (k.val + 1), by revert c k; decide⟩

/-- Being the `k`-th peer is symmetric. -/
theorem px_px (c : Dev nD) (k : Fin 7) : px (px c k) k = c := by revert c k; decide
/-- A device is not its own peer. -/
theorem px_ne (c : Dev nD) (k : Fin 7) : px c k ≠ c := by revert c k; decide
/-- Different numbers name different peers. -/
theorem px_inj (c : Dev nD) : Function.Injective (px c) := by revert c; decide
/-- Every other device is a peer. -/
theorem exists_px (c p : Dev nD) (h : p ≠ c) : ∃ k, px c k = p := by revert c p; decide

/-- Taking the `k`-th peer, as a permutation of the devices. -/
def pxEquiv (k : Fin 7) : Dev nD ≃ Dev nD := ⟨fun c => px c k, fun c => px c k, fun c => px_px c k, fun c => px_px c k⟩

/-- The signals go to the peers in order. -/
theorem dev1_px (c : Dev nD) : (⟨k0_dev1 c, k0_dev1_lt c⟩ : Dev nD) = px c 0 := by revert c; decide +kernel
theorem dev2_px (c : Dev nD) : (⟨k0_dev2 c, k0_dev2_lt c⟩ : Dev nD) = px c 1 := by revert c; decide +kernel
theorem dev3_px (c : Dev nD) : (⟨k0_dev3 c, k0_dev3_lt c⟩ : Dev nD) = px c 2 := by revert c; decide +kernel
theorem dev4_px (c : Dev nD) : (⟨k0_dev4 c, k0_dev4_lt c⟩ : Dev nD) = px c 3 := by revert c; decide +kernel
theorem dev5_px (c : Dev nD) : (⟨k0_dev5 c, k0_dev5_lt c⟩ : Dev nD) = px c 4 := by revert c; decide +kernel
theorem dev6_px (c : Dev nD) : (⟨k0_dev6 c, k0_dev6_lt c⟩ : Dev nD) = px c 5 := by revert c; decide +kernel
theorem dev7_px (c : Dev nD) : (⟨k0_dev7 c, k0_dev7_lt c⟩ : Dev nD) = px c 6 := by revert c; decide +kernel
/-- The transfers go to the peers `6, 2, 5, 7, 1, 3, 4` (counting from one). -/
theorem dev8_px (c : Dev nD) : (⟨k0_dev8 c, k0_dev8_lt c⟩ : Dev nD) = px c 5 := by revert c; decide +kernel
theorem dev9_px (c : Dev nD) : (⟨k0_dev9 c, k0_dev9_lt c⟩ : Dev nD) = px c 1 := by revert c; decide +kernel
theorem dev10_px (c : Dev nD) : (⟨k0_dev10 c, k0_dev10_lt c⟩ : Dev nD) = px c 4 := by revert c; decide +kernel
theorem dev11_px (c : Dev nD) : (⟨k0_dev11 c, k0_dev11_lt c⟩ : Dev nD) = px c 6 := by revert c; decide +kernel
theorem dev12_px (c : Dev nD) : (⟨k0_dev12 c, k0_dev12_lt c⟩ : Dev nD) = px c 0 := by revert c; decide +kernel
theorem dev13_px (c : Dev nD) : (⟨k0_dev13 c, k0_dev13_lt c⟩ : Dev nD) = px c 2 := by revert c; decide +kernel
theorem dev14_px (c : Dev nD) : (⟨k0_dev14 c, k0_dev14_lt c⟩ : Dev nD) = px c 3 := by revert c; decide +kernel

/-- The offset a peer's slot is read at. -/
theorem off3_px : ∀ (c : Dev nD) (k : Fin 7), k0_off3 c (BitVec.ofNat 32 (1 + k.val)) = ![(px c k).val, 0, 0] := by decide +kernel

/-! ## The buffers -/

abbrev xA : Memref sig .tc .hbm S512x256 .f32 := Memref.whole main_arg0
abbrev iA : Memref sig .tc .hbm S512x1 .i32 := Memref.whole main_arg2
abbrev wA : Memref sig .tc .hbm S2x256x512 .f32 := Memref.whole main_arg3
abbrev oA : Memref sig .tc .hbm S512x512 .f32 := Memref.whole main_v1
abbrev xM : Memref sig .tc .vmem S512x256 .f32 := Memref.whole cc0_scratch0
abbrev iM : Memref sig .tc .vmem S512x1 .i32 := Memref.whole cc0_scratch1
abbrev wM : Memref sig .tc .vmem S2x256x512 .f32 := Memref.whole cc0_scratch2
abbrev oM : Memref sig .tc .vmem S512x512 .f32 := Memref.whole cc0_scratch3
abbrev gM : Memref sig .tc .vmem S8x50x512 .bf16 := Memref.whole cc0_scratch4

/-- Slot `p` of the gathering buffer. -/
abbrev slotM (p : Dev nD) : Memref sig .tc .vmem S1x50x512 .bf16 :=
  gM.slice (Rect.unit (s := S8x50x512) (k0_off2 p) S1x50x512.size (k0_off2_inb p)) (fun _ => rfl)

/-- The elements of slot `p`. -/
def slotS (p : Dev nD) : Finset (cc0_scratch4.ty.Idx) := (slotM p).view.set

/-- An index lies in a block of the gathering buffer at `![p, 0, 0]` when its first coordinate is `p`. -/
theorem mem_block (off : Fin 3 → Nat) (p : Dev nD) (hoff : off = ![p.val, 0, 0])
    (inb : ∀ a, off a + S1x50x512.size a ≤ S8x50x512.size a) (i : S8x50x512.Idx) :
    i ∈ (Rect.unit (s := S8x50x512) off S1x50x512.size inb).set ↔ (i 0).val = p.val := by
  subst hoff
  rw [Rect.mem_set_unit]
  constructor
  · intro h
    have := h 0
    have h1 : (p.val : ℕ) ≤ (i 0).val := this.1
    have h2 : (i 0).val < p.val + 1 := this.2
    omega
  · intro h a
    have h1 : (i 1).val < 50 := (i 1).isLt
    have h2 : (i 2).val < 512 := (i 2).isLt
    fin_cases a
    · exact ⟨h.ge, show (i 0).val < p.val + 1 by omega⟩
    · exact ⟨Nat.zero_le _, show (i 1).val < 0 + 50 by omega⟩
    · exact ⟨Nat.zero_le _, show (i 2).val < 0 + 512 by omega⟩

/-- Slot `p`'s elements are the indices whose first coordinate is `p`. -/
theorem mem_slotS (p : Dev nD) (i : S8x50x512.Idx) : i ∈ slotS p ↔ (i 0).val = p.val := by
  unfold slotS
  show i ∈ ((View.whole cc0_scratch4).slice (Rect.unit (s := S8x50x512) (k0_off2 p) S1x50x512.size (k0_off2_inb p))).set ↔ _
  rw [View.set_slice_whole]
  exact mem_block _ p (k0_off2_eq p) _ i

/-- Different slots share no element. -/
theorem slotS_disjoint (p q : Dev nD) (h : p ≠ q) : Disjoint (slotS p) (slotS q) :=
  Finset.disjoint_left.mpr fun i hp hq => h (Fin.ext (((mem_slotS p i).mp hp).symm.trans ((mem_slotS q i).mp hq)))

/-- The slots make up the gathering buffer. -/
theorem slotS_cover : (Finset.univ : Finset (Dev nD)).biUnion slotS = Finset.univ := by
  ext i
  simp only [Finset.mem_biUnion, Finset.mem_univ, true_and, iff_true]
  exact ⟨⟨(i 0).val, (i 0).isLt⟩, (mem_slotS _ i).mpr rfl⟩

/-- A load at slot `p`'s offset touches slot `p`'s elements only. -/
theorem load_subset (off : Fin 3 → Nat) (p : Dev nD) (hoff : off = ![p.val, 0, 0])
    (inb : ∀ a, off a + S1x50x512.size a ≤ S8x50x512.size a) :
    gM.view.setOn (Rect.unit (s := S8x50x512) off S1x50x512.size inb).toLoadRect.set ⊆ slotS p := by
  intro i hi
  obtain ⟨j, hj, rfl⟩ := Finset.mem_map.mp hi
  have hj' : j ∈ (Rect.unit (s := S8x50x512) off S1x50x512.size inb).set := by
    exact hj
  exact (mem_slotS p _).mpr ((mem_block off p hoff inb j).mp hj')

/-- A store at slot `p`'s offset touches slot `p`'s elements only. -/
theorem store_subset (off : Fin 3 → Nat) (p : Dev nD) (hoff : off = ![p.val, 0, 0])
    (inb : ∀ a, off a + S1x50x512.size a ≤ S8x50x512.size a) :
    (gM.access (Rect.unit (s := S8x50x512) off S1x50x512.size inb)).set ⊆ slotS p := by
  intro i hi
  have : i ∈ (Rect.unit (s := S8x50x512) off S1x50x512.size inb).set := by
    have h := hi
    change i ∈ ((View.whole cc0_scratch4).slice _).set at h
    rwa [View.set_slice_whole] at h
  exact (mem_slotS p _).mpr ((mem_block off p hoff inb i).mp this)

/-! ## The semaphores -/

/-- The barrier semaphore. -/
abbrev barS := (SemArray.scalar (sig.barrier 0 rfl) : Sems sig S_).sem
/-- The semaphore of the `j`-th local copy. -/
def cJ (j : Fin 4) : Fin 18 := ⟨j.val, by omega⟩
/-- The semaphore that the sending of a block to the `k`-th peer credits. -/
def sJ (k : Fin 7) : Fin 18 := ⟨4 + k.val, by omega⟩
/-- The semaphore that the landing of the `k`-th peer's block credits. -/
def rJ (k : Fin 7) : Fin 18 := ⟨11 + k.val, by omega⟩

/-- Semaphore 0 is the barrier's; semaphore `j + 1` is the `j`-th transfer semaphore. -/
abbrev osem : Fin 18 → SemLoc sig := fun j => .dma j
abbrev barC (c : Dev nD) : GSem nD τ sig := ((c : Thread nD τ), .reg barS)
abbrev dmaC (c : Dev nD) (j : Fin 18) : GSem nD τ sig := ((c : Thread nD τ), osem j)

end Cert.Exchange

end
-- ==== Proof.Contents.lean ====
/-
# 01_k — `Contents`: what each buffer holds

From the arguments in a memory: the block of rows each device computes, what the gathering buffer holds once every
block has landed, and the result.
-/
module

public import proofs.«01_k».proof.Proof.Places

@[expose] public section

noncomputable section

namespace Cert.Exchange

open Cert.KernelIdeal Cert.KernelIdeal.Gen
open Idealize.ShloMosaic Idealize.ShloMosaic.TcCoe
open Idealize.SL Idealize.SL.RA Idealize.SL.BI

variable {F : FTy → Type} [FloatOps F]
variable (m : (ℓ : Loc nD τ sig) → Buf (Elt F) ℓ)

/-- The tokens, as device `c` holds them. -/
def xF (c : Dev nD) : FVec F S512x256 .f32 := m ((c : Thread nD τ).loc main_arg0)
/-- The experts the tokens go to, as device `c` holds them. -/
def iF (c : Dev nD) : IVec S512x1 32 := m ((c : Thread nD τ).loc main_arg2)
/-- Device `c`'s two experts. -/
def wF (c : Dev nD) : FVec F S2x256x512 .f32 := m ((c : Thread nD τ).loc main_arg3)

/-- Device `c`'s number, as the kernel computes it. -/
abbrev vw (c : Dev nD) : BitVec 32 := Scalar.remsi (Scalar.divsi (Dev.word c) 1#32) 8#32

/-- Device `c`'s first expert. -/
def w0F (c : Dev nD) : FVec F S1x256x512 .f32 :=
  wM.view.readAt (Elt F) (Rect.unit (s := S2x256x512) ![0, 0, 0] S1x256x512.size inb_S2x256x512_S1x256x512_0_0_0).toLoadRect (wF m c)
/-- Device `c`'s second expert. -/
def w1F (c : Dev nD) : FVec F S1x256x512 .f32 :=
  wM.view.readAt (Elt F) (Rect.unit (s := S2x256x512) ![1, 0, 0] S1x256x512.size inb_S2x256x512_S1x256x512_1_0_0).toLoadRect (wF m c)

/-- The 50 rows device `c` computes: 25 for each of its experts. -/
def yF (c : Dev nD) : FVec F S1x50x512 .bf16 := k0_pay3 (k0_pay2 (F := F) (vw c) (iF m c)) (xF m c) (w0F m c) (w1F m c)

/-- An index of the gathering buffer, within the slot it lies in. -/
def inSlot (i : S8x50x512.Idx) : S1x50x512.Idx := fun a => match a with
  | ⟨0, _⟩ => (⟨0, Nat.one_pos⟩ : Fin 1)
  | ⟨1, _⟩ => (⟨(i 1).val, (i 1).isLt⟩ : Fin 50)
  | ⟨2, _⟩ => (⟨(i 2).val, (i 2).isLt⟩ : Fin 512)

/-- The gathering buffer with every slot filled: slot `p` holds what device `p` computed. -/
def gF : S8x50x512.Idx → F .bf16 := fun i => yF m ⟨(i 0).val, (i 0).isLt⟩ (inSlot i)

/-- Row numbers of a block. -/
abbrev rowsV : IVec S512x50 32 := iota .tc S512x50 32 [1] iota_S512x50_d1_w32
/-- The row each token was given among the 400. -/
def placeV (c : Dev nD) : IVec S512x1 32 := k0_pay1 (F := F) (iF m c)
/-- Where the tokens' rows lie among the blocks of device `c` and its peers 1, 3 and 4. -/
def nearV (c : Dev nD) : FVec F S512x200 .bf16 :=
  k0_pay4 (vw c) rowsV (placeV m c) (Scalar.xori (vw c) 1#32) (Scalar.xori (vw c) 3#32)
/-- Where the tokens' rows lie among the blocks of its peers 6, 2, 5 and 7. -/
def farV (c : Dev nD) : FVec F S512x200 .bf16 :=
  k0_pay7 rowsV (placeV m c) (Scalar.xori (vw c) 5#32) (Scalar.xori (vw c) 7#32) (k0_pay5 (vw c) rowsV (placeV m c)) (k0_pay6 (vw c) (placeV m c))

/-- What device `c` picks from the first four blocks. -/
def nearSum (c : Dev nD) : FVec F S512x512 .f32 := k0_pay8 (nearV m c) (yF m c) (yF m (px c 0)) (yF m (px c 2)) (yF m (px c 3))
/-- What device `c` picks from all eight blocks. -/
def allSum (c : Dev nD) : FVec F S512x512 .f32 :=
  k0_pay9 (farV m c) (nearSum m c) (yF m (px c 5)) (yF m (px c 1)) (yF m (px c 4)) (yF m (px c 6))
/-- The result on device `c`. -/
def outF (c : Dev nD) : FVec F S512x512 .f32 := k0_pay10 (allSum m c)

/-- A load of slot `p` off the filled gathering buffer reads what device `p` computed. -/
theorem read_slot (off : Fin 3 → Nat) (p : Dev nD) (hoff : off = ![p.val, 0, 0])
    (inb : ∀ a, off a + S1x50x512.size a ≤ S8x50x512.size a) :
    gM.view.readAt (Elt F) (Rect.unit (s := S8x50x512) off S1x50x512.size inb).toLoadRect (gF m) = yF m p := by
  subst hoff
  funext j
  have h0 : (j 0).val = 0 := by have : (j 0).val < 1 := (j 0).isLt; omega
  show gF m ((Rect.unit (s := S8x50x512) ![p.val, 0, 0] S1x50x512.size inb).emb j) = yF m p j
  unfold gF
  congr 1
  · refine Fin.ext ?_
    show p.val + 1 * (j 0).val = p.val
    omega
  · funext a
    fin_cases a
    · exact Fin.ext (show 0 = (j 0).val from h0.symm)
    · exact Fin.ext (show 0 + 1 * (j 1).val = (j 1).val by omega)
    · exact Fin.ext (show 0 + 1 * (j 2).val = (j 2).val by omega)

/-- After device `c` stores its rows, its own slot holds what the filled buffer holds there. -/
theorem store_slot (off : Fin 3 → Nat) (c : Dev nD) (hoff : off = ![c.val, 0, 0])
    (inb : ∀ a, off a + S1x50x512.size a ≤ S8x50x512.size a) (f : cc0_scratch4.ty.Contents (Elt F))
    (i : S8x50x512.Idx) (hi : i ∈ slotS c) :
    (gM.access (Rect.unit (s := S8x50x512) off S1x50x512.size inb) : View sig .tc _ _ _).write (Elt F) f (yF m c) Finset.univ i = gF m i := by
  have hr := read_slot (F := F) m off c hoff inb
  have hi' : i ∈ (Rect.unit (s := S8x50x512) off S1x50x512.size inb).set :=
    (mem_block off c hoff inb i).mpr ((mem_slotS c i).mp hi)
  rw [← Rect.map_emb_univ] at hi'
  obtain ⟨x, -, rfl⟩ := Finset.mem_map.mp hi'
  refine ((gM.access (Rect.unit (s := S8x50x512) off S1x50x512.size inb) : View sig .tc _ _ _).write_emb_of_mem f (yF m c) (Finset.mem_univ x)).trans ?_
  rw [← hr]; rfl

/-- A block copied from slot `p` of a filled buffer leaves slot `p` of the destination as in a filled buffer. -/
theorem landed_slot (p : Dev nD) (f : cc0_scratch4.ty.Contents (Elt F)) (i : S8x50x512.Idx) (hi : i ∈ slotS p) :
    (slotM p).view.write (Elt F) f ((slotM p).view.read (Elt F) (gF m)) Finset.univ i = gF m i := by
  obtain ⟨x, -, rfl⟩ := Finset.mem_map.mp hi
  exact ((slotM p).view.write_emb_of_mem f _ (Finset.mem_univ x)).trans rfl

end Cert.Exchange

end
-- ==== Proof.Protocol.lean ====
/-
# 01_k — `Protocol`: who signals whom, and what each credit hands over

Every semaphore is credited for one round. Device `c`'s barrier gets one unit from each peer; the `k`-th peer's unit
hands `c` slot `c` of that peer's gathering buffer. A transfer semaphore gets one credit: a local copy's hands back its
source and the filled destination, a sending's hands back the share of the slot it was read from, and a landing's hands
over the slot filled by that peer.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the pipeline, and those of the exchange, whose duties are numbered by the peers. -/
abbrev UX : Type := Rounds.URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## What is handed over -/

/-- Slot `p` of device `d`'s gathering buffer, held at share `q`. -/
def slotPt (d p : Dev nD) (q : PosShare TreeShare) (f : Buf (Elt F) ((d : Thread nD τ).loc cc0_scratch4)) : sProp 𝕄 :=
  ((d : Thread nD τ).loc cc0_scratch4) ↦[slotS p]{q} f

/-- A whole buffer of device `d`. -/
abbrev bufPt (d : Dev nD) (b : Ref sig .tc) (f : Buf (Elt F) ((d : Thread nD τ).loc b)) : sProp 𝕄 :=
  ((d : Thread nD τ).loc b) ↦{fullShare} f

/-- The share of a device's own slot lent to the sending to its `k`-th peer. -/
def lent (k : Fin 7) : PosShare TreeShare := ShareLeaves.leaf 3 fullShare ⟨k.val + 1, by omega⟩
/-- The share of a device's own slot kept while the sendings read it. -/
def kept : PosShare TreeShare := ShareLeaves.leaf 3 fullShare ⟨0, by omega⟩

/-- What the `k`-th peer's signal hands device `c`: its own slot of that peer's gathering buffer. -/
def barPay (c : Dev nD) (k : Fin 7) : sProp 𝕄 := iprop(∃ f, slotPt (px c k) c fullShare f)

/-- What the `j`-th local copy hands back. -/
def copyPay (c : Dev nD) (j : Fin 4) : sProp 𝕄 := match j with
  | 0 => iprop(bufPt c cc0_scratch1 (iF m c) ∗ bufPt c main_arg2 (iF m c))
  | 1 => iprop(bufPt c cc0_scratch0 (xF m c) ∗ bufPt c main_arg0 (xF m c))
  | 2 => iprop(bufPt c cc0_scratch2 (wF m c) ∗ bufPt c main_arg3 (wF m c))
  | 3 => iprop(bufPt c main_v1 (outF m c) ∗ bufPt c cc0_scratch3 (outF m c))

/-- What the credit of the `j`-th transfer semaphore hands over. -/
def dmaPay (c : Dev nD) (j : Fin 18) : sProp 𝕄 :=
  if h : j.val < 4 then copyPay m c ⟨j.val, h⟩
  else if h' : j.val < 11 then slotPt c c (lent ⟨j.val - 4, by omega⟩) (gF m)
  else slotPt c (px c ⟨j.val - 11, by omega⟩) fullShare (gF m)

theorem dmaPay_copy (c : Dev nD) (j : Fin 4) : dmaPay m c (cJ j) = copyPay m c j := by
  unfold dmaPay; rw [dif_pos (show (cJ j).val < 4 from j.isLt)]; rfl
theorem dmaPay_send (c : Dev nD) (k : Fin 7) : dmaPay m c (sJ k) = slotPt c c (lent k) (gF m) := by
  revert k; intro k; fin_cases k <;> rfl
theorem dmaPay_recv (c : Dev nD) (k : Fin 7) : dmaPay m c (rJ k) = slotPt c (px c k) fullShare (gF m) := by
  revert k; intro k; fin_cases k <;> rfl

instance slotPt_storable (d p : Dev nD) (q : PosShare TreeShare) (f) : BI.Storable (upEmb : UEmb _ 𝕄) (slotPt (F := F) d p q f) := by
  unfold slotPt; infer_instance
instance copyPay_storable (c : Dev nD) (j : Fin 4) : BI.Storable (upEmb : UEmb _ 𝕄) (copyPay (F := F) m c j) := by
  fin_cases j <;> (unfold copyPay bufPt; infer_instance)
instance barPay_storable (c : Dev nD) (k : Fin 7) : BI.Storable (upEmb : UEmb _ 𝕄) (barPay (F := F) c k) := by
  unfold barPay; infer_instance
instance dmaPay_storable (c : Dev nD) (j : Fin 18) : BI.Storable (upEmb : UEmb _ 𝕄) (dmaPay (F := F) m c j) := by
  unfold dmaPay; (repeat' split) <;> infer_instance

/-! ## The schedule -/

/-- The credit of a block's landing. -/
def blockN : ℕ := (slotM (0 : Dev nD)).view.dmaCredit
/-- The credits of the local copies. -/
def copyN (j : Fin 4) : ℕ :=
  if j = 0 then iM.view.dmaCredit else if j = 1 then xM.view.dmaCredit else if j = 2 then wM.view.dmaCredit else oA.view.dmaCredit

theorem blockN_pos : 0 < blockN := View.dmaCredit_pos _ (Shape.numel_pos (by decide))
theorem copyN_pos (j : Fin 4) : 0 < copyN j := by
  unfold copyN
  split_ifs <;> exact View.dmaCredit_pos _ (Shape.numel_pos (by decide))

/-- The credit of each transfer semaphore. -/
def amt (j : Fin 18) : ℕ := if h : j.val < 4 then copyN ⟨j.val, h⟩ else blockN

theorem amt_copy (j : Fin 4) : amt (cJ j) = copyN j := dif_pos (show (cJ j).val < 4 from j.isLt)
theorem amt_send (k : Fin 7) : amt (sJ k) = blockN := dif_neg (show ¬ (sJ k).val < 4 by simp [sJ])
theorem amt_recv (k : Fin 7) : amt (rJ k) = blockN := dif_neg (show ¬ (rJ k).val < 4 by simp [rJ]; omega)

theorem amt_pos (j : Fin 18) : 0 < amt j := by
  unfold amt
  split_ifs
  · exact copyN_pos _
  · exact blockN_pos

/-- One round on every semaphore: seven units on a barrier, one credit on a transfer semaphore. -/
def Rd : Rounds.Schedule (GSem nD τ sig) (Fin 7) 𝕄 where
  duties g r := if r = 0 ∧ g.1.2 = .tc then (match g.2 with | .reg _ => Finset.univ | .dma _ => {0}) else ∅
  unitless _ := False
  amount g _ _ := match g.2 with | .reg _ => 1 | .dma j => amt j
  payload g _ d := match g.2 with | .reg _ => barPay g.1.1 d | .dma j => dmaPay m g.1.1 j
  amount_pos g _ _ _ := by
    rcases g with ⟨t, sm⟩
    cases sm with
    | reg s => exact Nat.one_pos
    | dma j => exact amt_pos j

instance Rd_payload_storable (g : GSem nD τ sig) (r : ℕ) (d : Fin 7) : BI.Storable (upEmb : UEmb _ 𝕄) ((Rd (F := F) m).payload g r d) := by
  rcases g with ⟨t, sm⟩
  cases sm with
  | reg s => show BI.Storable upEmb (barPay t.1 d); infer_instance
  | dma j => show BI.Storable upEmb (dmaPay m t.1 j); infer_instance

section Tables
variable (c : Dev nD)

theorem duties_bar : (Rd (F := F) m).duties (barC c) 0 = Finset.univ := by dsimp only [Rd]; exact if_pos ⟨rfl, rfl⟩
theorem duties_dma (j : Fin 18) : (Rd (F := F) m).duties (dmaC c j) 0 = {0} := by dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_bar (k : Fin 7) : (Rd (F := F) m).amount (barC c) 0 k = 1 := rfl
theorem amount_dma (j : Fin 18) (k : Fin 7) : (Rd (F := F) m).amount (dmaC c j) 0 k = amt j := rfl
theorem payload_bar (k : Fin 7) : (Rd (F := F) m).payload (barC c) 0 k = barPay c k := rfl
theorem payload_dma (j : Fin 18) (k : Fin 7) : (Rd (F := F) m).payload (dmaC c j) 0 k = dmaPay m c j := rfl
theorem expect_bar : (Rd (F := F) m).expect (barC c) 0 = 7 := by
  unfold Schedule.expect Schedule.amountOf; rw [duties_bar]; rfl
theorem expect_dma (j : Fin 18) : (Rd (F := F) m).expect (dmaC c j) 0 = amt j := by
  unfold Schedule.expect Schedule.amountOf; rw [duties_dma, Finset.sum_singleton, amount_dma]
theorem rest_bar : bigSep ((Rd (F := F) m).duties (barC c) 0 \ ∅) (fun u => (Rd (F := F) m).payload (barC c) 0 u)
    = bigSep Finset.univ fun k => (barPay c k : sProp 𝕄) := by
  rw [Finset.sdiff_empty, duties_bar]; rfl
theorem rest_dma (j : Fin 18) : bigSep ((Rd (F := F) m).duties (dmaC c j) 0 \ ∅) (fun u => (Rd (F := F) m).payload (dmaC c j) 0 u)
    = dmaPay m c j := by
  rw [Finset.sdiff_empty, duties_dma, bigSep_singleton, payload_dma]

end Tables

/-! ## What each device owes -/

/-- The landings device `c` still owes, those to the peers in `l`. -/
def owesR (c : Dev nD) : List (Fin 7) → CellTallies nD τ sig Unit
  | [] => 0
  | k :: l => owesR c l + tallyAt (dmaC (px c k) (rJ k)) () blockN
/-- The landings to every peer, in the order of the sendings. -/
abbrev landings (c : Dev nD) : CellTallies nD τ sig Unit := owesR c [5, 1, 4, 6, 0, 2, 3]
/-- All the landings, and the signals device `c` still owes, those to the peers in `l`. -/
def owesB (c : Dev nD) : List (Fin 7) → CellTallies nD τ sig Unit
  | [] => landings c
  | k :: l => owesB c l + tallyAt (barC (px c k)) () 1
/-- What device `c` owes when it starts. -/
def O₀ (c : Dev nD) : CellTallies nD τ sig Unit := owesB c [0, 1, 2, 3, 4, 5, 6]

/-! ## The order of the waits -/

def L (g : GSem nD τ sig) : Finset Unit := if g.1.2 = .tc then {()} else ∅
/-- Copies and sendings lie below the barrier, and the barrier below the landings. -/
def lv (g : GSem nD τ sig) (_ : Unit) : ℕ := match g.2 with
  | .reg _ => 1
  | .dma j => if j.val < 11 then 0 else 2
theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 7) : lv (dmaC c (rJ k)) () = 2 := by fin_cases k <;> rfl

/-- Only landings are owed by `owesR`. -/
theorem owesR_pos (c : Dev nD) : ∀ (l : List (Fin 7)) {g : GSem nD τ sig} {u : Unit}, 0 < owesR c l g u → ∃ k, g = dmaC (px c k) (rJ k)
  | [], g, u, h => absurd h (Nat.lt_irrefl 0)
  | k :: l, g, u, h => by
    unfold owesR at h
    rw [Pi.add_apply, Finsupp.add_apply, tallyAt_apply] at h
    by_cases hk : g = dmaC (px c k) (rJ k) ∧ u = ()
    · exact ⟨k, hk.1⟩
    · rw [if_neg hk] at h; exact owesR_pos c l h

/-- A device that owes landings only may wait on any semaphore below them. -/
theorem mayWait_landings (c : Dev nD) (sm : SemLoc sig) (n : ℕ) (hn : lv ((c : Thread nD τ), sm) () ≤ n) (h2 : n < 2) (l : List (Fin 7)) :
    (levAts L lv : sProp 𝕄) ⊢ MayWait (c : Thread nD τ) sm () (owesR c l) :=
  MayOwe.of_cut (L := L) (lev := lv) n (fun p hp => by rw [Finset.mem_singleton.mp hp, L_tc]; exact Finset.mem_singleton_self _)
    (fun g u hg => by obtain ⟨k, rfl⟩ := owesR_pos c l hg; rw [L_tc]; exact Finset.mem_singleton_self _)
    (fun p hp => by rw [Finset.mem_singleton.mp hp]; exact hn)
    (fun g u hg => by obtain ⟨k, rfl⟩ := owesR_pos c l hg; rw [lv_recv]; exact h2)

theorem mayWait_none (c : Dev nD) (sm : SemLoc sig) : (levAts L lv : sProp 𝕄) ⊢ MayWait (c : Thread nD τ) sm () 0 := by
  rw [MayWait_zero]; iintro -; iempintro

/-! ## The semaphores of all devices, and what is known of them throughout -/

/-- One device's semaphores: the barrier, and the eighteen of the transfers. -/
abbrev CK : Type := Unit ⊕ Fin 18
def kcell (ck : Dev nD × CK) : GSem nD τ sig := match ck.2 with
  | .inl _ => barC ck.1
  | .inr j => dmaC ck.1 j

/-- Every semaphore follows the schedule, has reached its round, and has its place in the order of the waits. -/
def records (K : Dev nD × CK → ℕ) : sProp 𝕄 :=
  iprop((bigSep Finset.univ fun ck : Dev nD × CK => cellInv EX (Rd m) (K ck) (kcell ck))
    ∗ (bigSep Finset.univ fun ck : Dev nD × CK => reached EX (kcell ck) 0) ∗ levAts L lv)
instance records_persistent (K : Dev nD × CK → ℕ) : BI.Persistent (records m K) := by unfold records; infer_instance

theorem inv_at (K : Dev nD × CK → ℕ) (ck : Dev nD × CK) : records m K ⊢ cellInv EX (Rd m) (K ck) (kcell ck) := by
  have h : (bigSep Finset.univ fun ck : Dev nD × CK => (cellInv EX (Rd m) (K ck) (kcell ck) : sProp 𝕄)) ⊢ cellInv EX (Rd m) (K ck) (kcell ck) :=
    bigSep_elim (Finset.mem_univ ck)
  unfold records
  iintro ⟨#H, -, -⟩
  iapply h; iexact H
theorem reached_at (K : Dev nD × CK → ℕ) (ck : Dev nD × CK) : records m K ⊢ reached EX (kcell ck) 0 := by
  have h : (bigSep Finset.univ fun ck : Dev nD × CK => (reached EX (kcell ck) 0 : sProp 𝕄)) ⊢ reached EX (kcell ck) 0 :=
    bigSep_elim (Finset.mem_univ ck)
  unfold records
  iintro ⟨-, #H, -⟩
  iapply h; iexact H
theorem levels_at (K : Dev nD × CK → ℕ) : records m K ⊢ levAts L lv := by
  unfold records
  iintro ⟨-, -, #H⟩; iexact H

end Cert.Exchange

end
-- ==== Proof.Steps.lean ====
/-
# 01_k — `Steps`: one rule for each kind of step

A signal to a peer, a local copy, the wait for all seven signals, the sending of a block, and the wait for a transfer,
each at a symbolic device.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c` comes to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owe (c : Dev nD) (O : CellTallies nD τ sig Unit) : sProp 𝕄 := iprop(∃ W, owes (c : Thread nD τ) O W)

variable (K : Dev nD × CK → ℕ)

/-- A signal to the `k`-th peer hands it its slot of this device's gathering buffer. -/
theorem step_signal (c n : Dev nD) (k : Fin 7) (hn : n = px c k) (l : List (Fin 7)) {α : Type} {Q : α → sProp 𝕄}
    {kk : PUnit → Prog (TpuEff nD τ sig (Elt F) Λ₀ .tc) α} :
    iprop(records m K ∗ owe c (owesB c (k :: l)) ∗ dutyTok EX (barC (px c k)) 0 k ∗ (∃ f, slotPt c (px c k) fullShare f))
      ⊢ iprop((owe c (owesB c l) -∗ WP c (kk ⟨⟩) Q)
          -∗ WP c (.op (.semSignal ((n, .tc) : Thread nD τ) barS (1#32 : BitVec 32).toInt) kk) Q) := by
  subst hn
  unfold owe
  iintro ⟨#HR, ⟨%W, HO⟩, Ht, Hs⟩ Hk
  iapply (Rounds.wp_signal 𝒱₀ EX (Rd m) (c : Thread nD τ) none (dst := (px c k : Thread nD τ)) (κ := K (px c k, .inl ())) (d := k)
      (by rw [duties_bar]; exact Finset.mem_univ _) ((amount_bar m (px c k) k).trans (by decide)) () (owesB c l) rfl) $$ [HO Ht Hs]
  · isplitr; · iapply (inv_at m K (px c k, .inl ())); iexact HR
    isplitl [HO]; · iexact HO
    isplitl [Ht]; · iexact Ht
    isplitl [Hs]
    · rw [payload_bar]; unfold barPay; rw [px_px]; iexact Hs
    iapply (reached_at m K (px c k, .inl ())); iexact HR
  iintro HO
  iapply Hk; iexists W; iexact HO

/-- A local copy: its source and its rewritten destination come back with its credit. -/
theorem step_copy (c : Dev nD) (j : Fin 4) {sp sp' : Space} {s : Shape} {e : EltTy} {src : Memref sig .tc sp s e} {dst : Memref sig .tc sp' s e}
    (sem : DmaSem sig) (hs : sem = cJ j) {hsrc : src.view.WordExact} {hdst : dst.view.WordExact}
    {hsem : DmaTarget.Typed (nD := nD) sp (SemLoc.dma sem) (DmaTarget.here (p := (Proc.tc : Proc τ)) dst)}
    {fs : Buf (Elt F) (src.view.loc (c : Thread nD τ))} {fd : Buf (Elt F) (dst.view.loc (c : Thread nD τ))}
    (hN : dst.view.dmaCredit = copyN j)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ copyPay m c j)
    {α : Type} {Q : α → sProp 𝕄} {kk : PUnit → Prog (TpuEff nD τ sig (Elt F) Λ₀ .tc) α} :
    iprop(records m K ∗ (src.view.loc (c : Thread nD τ) ↦[src.view.set]{fullShare} fs) ∗ (dst.view.loc (c : Thread nD τ) ↦[dst.view.set]{fullShare} fd)
        ∗ dutyTok EX (dmaC c (cJ j)) 0 0)
      ⊢ iprop((cred (tallyAt (dmaC c (cJ j)) () (amt (cJ j))) -∗ WP c (kk ⟨⟩) Q)
          -∗ WP c (.op (.enqueueDma src (.here dst) (.dma sem) hsrc hdst hsem) kk) Q) := by
  subst hs
  iintro ⟨#HR, Hs, Hd, Ht⟩ Hk
  iapply (Rounds.wp_copy_pointsTo 𝒱₀ EX (Rd m) (c : Thread nD τ) none (sem := .dma (cJ j)) (κ := K (c, .inr (cJ j))) (r := 0) (d := 0) (fd := fd)
      (by rw [duties_dma]; exact Finset.mem_singleton_self _) () (amt (cJ j)) (hN.trans (amt_copy j).symm) (amount_dma m c (cJ j) 0)
      (hpay.trans (by rw [payload_dma, dmaPay_copy]))) $$ [Hs Hd Ht]
  · isplitr; · iapply (inv_at m K (c, .inr (cJ j))); iexact HR
    isplitl [Hs]; · iexact Hs
    isplitl [Hd]; · iexact Hd
    isplitl [Ht]; · iexact Ht
    iapply (reached_at m K (c, .inr (cJ j))); iexact HR
  iexact Hk

/-- The wait for the credit of a transfer semaphore: its payload arrives and the semaphore is back at zero. -/
theorem step_wait (c : Dev nD) (j : Fin 18) {sp sp' : Space} {s s' : Shape} {e e' : EltTy} {src : Memref sig .tc sp' s' e'}
    {dst : Memref sig .tc sp s e} (sem : DmaSem sig) (hs : sem = j) {hsrc : src.view.WordExact} {hdst : dst.view.WordExact}
    (hN : dst.view.dmaCredit = amt j) (O : CellTallies nD τ sig Unit)
    (hO : (levAts L lv : sProp 𝕄) ⊢ MayWait (c : Thread nD τ) (.dma j) () O)
    {α : Type} {Q : α → sProp 𝕄} {kk : PUnit → Prog (TpuEff nD τ sig (Elt F) Λ₀ .tc) α} :
    iprop(records m K ∗ cred (tallyAt (dmaC c j) () (amt j)) ∗ owe c O ∗ atPos EX (dmaC c j) 0 ∅ 0)
      ⊢ iprop(((owe c O ∗ semVal (dmaC c j) 0 ∗ dmaPay m c j) -∗ WP c (kk ⟨⟩) Q)
          -∗ WP c (.op (.waitDma2 sem src dst hsrc hdst) kk) Q) := by
  subst hs
  unfold owe
  iintro ⟨#HR, Hc, ⟨%W, HO⟩, Ha⟩ Hk
  iapply (Rounds.wp_wait_rest_token 𝒱₀ EX (Rd m) (c : Thread nD τ) none (κ := K (c, .inr sem))
      (wpE_waitDma2_eq 𝒱₀ (c : Thread nD τ) none Set.univ) (Set.mem_univ _) () (O := O) (W := W) (R := 0) (m := 0) (T := ∅)
      (by rw [Nat.zero_add, hN]; exact (expect_dma m c sem).symm)) $$ [Hc HO Ha]
  · isplitr; · iapply (inv_at m K (c, .inr sem)); iexact HR
    isplitl [Hc]; · rw [hN]; iexact Hc
    isplitl [HO]; · iexact HO
    isplitr; · iapply hO; iapply (levels_at m K); iexact HR
    iexact Ha
  iintro ⟨HO, Ha, -, Hp⟩
  ihave Hp := (Entails.of_eq (rest_dma m c sem)) $$ Hp
  imod (Rounds.cell_close EX (Rd m) (Set.mem_univ (K (c, .inr sem))) (fun h => h) (R := 0 + 1) (duties_later m (dmaC c sem))) $$ [Ha] with Hz
  · isplitr; · iapply (inv_at m K (c, .inr sem)); iexact HR
    iexact Ha
  iapply Hk
  isplitl [HO]; · iexists _; iexact HO
  isplitl [Hz]; · iexact Hz
  iexact Hp

/-- The wait for all seven signals: every peer's slot for this device arrives. -/
theorem step_bar (c : Dev nD) {α : Type} {Q : α → sProp 𝕄} {kk : PUnit → Prog (TpuEff nD τ sig (Elt F) Λ₀ .tc) α} :
    iprop(records m K ∗ cred (tallyAt (barC c) () 7) ∗ owe c (landings c) ∗ atPos EX (barC c) 0 ∅ 0)
      ⊢ iprop(((owe c (landings c) ∗ semVal (barC c) 0 ∗ bigSep Finset.univ fun k : Fin 7 => (barPay c k : sProp 𝕄)) -∗ WP c (kk ⟨⟩) Q)
          -∗ WP c (.op (.semWait barS (7#32 : BitVec 32).toInt) kk) Q) := by
  unfold owe
  iintro ⟨#HR, Hc, ⟨%W, HO⟩, Ha⟩ Hk
  iapply (Rounds.wp_wait_rest_token 𝒱₀ EX (Rd m) (c : Thread nD τ) none (κ := K (c, .inl ()))
      (wpE_semWait_eq 𝒱₀ (c : Thread nD τ) none Set.univ) (Set.mem_univ _) () (O := landings c) (W := W) (R := 0) (m := 0) (T := ∅)
      (by rw [expect_bar]; decide)) $$ [Hc HO Ha]
  · isplitr; · iapply (inv_at m K (c, .inl ())); iexact HR
    isplitl [Hc]; · iexact Hc
    isplitl [HO]; · iexact HO
    isplitr
    · iapply (mayWait_landings c (.reg barS) 1 (Nat.le_refl 1) (by decide) [5, 1, 4, 6, 0, 2, 3]); iapply (levels_at m K); iexact HR
    iexact Ha
  iintro ⟨HO, Ha, -, Hp⟩
  ihave Hp := (Entails.of_eq (rest_bar m c)) $$ Hp
  imod (Rounds.cell_close EX (Rd m) (Set.mem_univ (K (c, .inl ()))) (fun h => h) (R := 0 + 1) (duties_later m (barC c))) $$ [Ha] with Hz
  · isplitr; · iapply (inv_at m K (c, .inl ())); iexact HR
    iexact Ha
  iapply Hk
  isplitl [HO]; · iexists _; iexact HO
  isplitl [Hz]; · iexact Hz
  iexact Hp

/-- Every slot's credit is the same. -/
theorem slot_credit (c : Dev nD) : (slotM c).view.dmaCredit = blockN := by unfold blockN; rfl

/-- The sending of a device's own slot to its `k`-th peer. -/
theorem step_send (c n : Dev nD) (k : Fin 7) (hn : n = px c k) (l : List (Fin 7)) (s₁ s₂ : DmaSem sig) (h₁ : s₁ = sJ k) (h₂ : s₂ = rJ k)
    {hsc : (slotM c : Memref sig (Dev.tc n : Thread nD τ).2.kind .vmem S1x50x512 .bf16).view.ref.isScScratch = false}
    {hsrc : (slotM c).view.WordExact} {hdst : (slotM c).view.WordExact}
    {hsem : DmaTarget.Typed .vmem (.dma s₂) (.remote (Dev.tc n : Thread nD τ) (slotM c) (.dma s₁) hsc)}
    {α : Type} {Q : α → sProp 𝕄} {kk : PUnit → Prog (TpuEff nD τ sig (Elt F) Λ₀ .tc) α} :
    iprop(records m K ∗ owe c (owesR c (k :: l)) ∗ slotPt c c (lent k) (gF m) ∗ (∃ f, slotPt (px c k) c fullShare f)
        ∗ dutyTok EX (dmaC c (sJ k)) 0 0 ∗ dutyTok EX (dmaC (px c k) (rJ k)) 0 0)
      ⊢ iprop(((cred (tallyAt (dmaC c (sJ k)) () (amt (sJ k))) ∗ owe c (owesR c l)) -∗ WP c (kk ⟨⟩) Q)
          -∗ WP c (.op (.enqueueDma (slotM c) (.remote (Dev.tc n : Thread nD τ) (slotM c) (.dma s₁) hsc) (.dma s₂) hsrc hdst hsem) kk) Q) := by
  subst hn; subst h₁; subst h₂
  unfold owe
  rw [amt_send]
  iintro ⟨#HR, ⟨%W, HO⟩, Hs, ⟨%fd, Hd⟩, Ht, Ht'⟩ Hk
  iapply (Rounds.wp_send_pointsTo 𝒱₀ EX (Rd m) (c : Thread nD τ) none (c' := (px c k : Thread nD τ)) (sS := .dma (sJ k)) (sem := .dma (rJ k)) (src := slotM c) (dst := slotM c) (κ₁ := K (c, .inr (sJ k))) (κ₂ := K (px c k, .inr (rJ k)))
      (r₁ := 0) (r₂ := 0) (d₁ := 0) (d₂ := 0) (fs := gF m) (fd := fd) (q := lent k)
      (by rw [duties_dma]; exact Finset.mem_singleton_self _) (by rw [duties_dma]; exact Finset.mem_singleton_self _)
      () () blockN (slot_credit c) ((amount_dma m c (sJ k) 0).trans (amt_send k)) ((amount_dma m (px c k) (rJ k) 0).trans (amt_recv k))
      (owesR c l) rfl (W := W)
      (by rw [payload_dma, dmaPay_send]; unfold slotPt; exact BI.Entails.refl _)
      (by rw [payload_dma, dmaPay_recv, px_px]; unfold slotPt
          exact Entails.of_eq (pointsTo_congr fun i hi => landed_slot m c fd i hi))) $$ [Hs Hd HO Ht Ht']
  · isplitr; · iapply (inv_at m K (c, .inr (sJ k))); iexact HR
    isplitr; · iapply (inv_at m K (px c k, .inr (rJ k))); iexact HR
    isplitl [Hs]; · unfold slotPt; iexact Hs
    isplitl [Hd]; · unfold slotPt; iexact Hd
    isplitl [HO]; · iexact HO
    isplitl [Ht]; · iexact Ht
    isplitr; · iapply (reached_at m K (c, .inr (sJ k))); iexact HR
    isplitl [Ht']; · iexact Ht'
    iapply (reached_at m K (px c k, .inr (rJ k))); iexact HR
  iintro ⟨Hc, HO⟩
  iapply Hk
  isplitl [Hc]; · iexact Hc
  iexists W; iexact HO

end Cert.Exchange

end
-- ==== Proof.Send.lean ====
/-
# 01_k — `Send`: the first half of the body

The signals, the copies in, this device's rows, the wait for the peers' signals, and the sendings.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The pieces the body is printed in, on this program's buffers -/

abbrev run1 := k0_part1 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run2 := k0_part2 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run3 := k0_part3 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run4 := k0_part4 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run5 := k0_part5 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run6 := k0_part6 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run7 := k0_part7 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run8 := k0_part8 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run9 := k0_part9 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7
abbrev run10 := k0_part10 (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7

/-! ## Bundles -/

/-- What the signal to the `k`-th peer takes: its right to be sent, and the slot it hands over. -/
abbrev sigRes (c : Dev nD) (k : Fin 7) : sProp 𝕄 := iprop(dutyTok EX (barC (px c k)) 0 k ∗ (∃ f, slotPt c (px c k) fullShare f))
/-- What the sending to the `k`-th peer takes: a share of the own slot, the peer's slot, and the rights to both credits. -/
abbrev sendRes (c : Dev nD) (k : Fin 7) : sProp 𝕄 :=
  iprop(slotPt c c (lent k) (gF m) ∗ (∃ f, slotPt (px c k) c fullShare f) ∗ dutyTok EX (dmaC c (sJ k)) 0 0 ∗ dutyTok EX (dmaC (px c k) (rJ k)) 0 0)
/-- The credit a transfer semaphore is about to give. -/
abbrev credOf (c : Dev nD) (j : Fin 18) : sProp 𝕄 := cred (tallyAt (dmaC c j) () (amt j))
/-- A transfer semaphore before its round. -/
abbrev atOf (c : Dev nD) (j : Fin 18) : sProp 𝕄 := atPos EX (dmaC c j) 0 ∅ 0
/-- A transfer semaphore at zero. -/
abbrev zeroOf (c : Dev nD) (j : Fin 18) : sProp 𝕄 := semVal (dmaC c j) 0

/-- A whole buffer, as the copies name it. -/
theorem bufPt_whole (c : Dev nD) (b : Ref sig .tc) (f : Buf (Elt F) ((c : Thread nD τ).loc b)) :
    (bufPt c b f : sProp 𝕄) = ((View.whole b).loc (c : Thread nD τ) ↦[(View.whole b).set]{fullShare} f) := by
  rw [View.set_whole]

/-- A program that returns at once. -/
theorem wp_done (c : Dev nD) {α : Type} (a : α) (Q : α → sProp 𝕄) : Q a ⊢ WP (F := F) c (Prog.ret a) Q := by
  unfold WP; rw [wp_ret]
  iintro H; imodintro; iexact H

/-! ## The pieces -/

theorem wp_part1 (c : Dev nD) (Kt : _ → sProp 𝕄) :
    iprop(records m K ∗ owe c (O₀ c) ∗ sigRes c 0 ∗ sigRes c 1 ∗ sigRes c 2 ∗ sigRes c 3 ∗ sigRes c 4 ∗ sigRes c 5
        ∗ (owe c (owesB c [6]) -∗ Kt ⟨c, vw c, SemArray.scalar (sig.barrier 0 rfl), Scalar.muli (Scalar.xori (vw c) 7#32) 1#32⟩))
      ⊢ WP c (run1 (F := F)) Kt := by
  simp only [run1, k0_part1_eq_skeleton]; unfold k0_part1_skel
  simp only [semSignalWord, Prog.lift, Prog.bind_op, Prog.bind_ret, Prog.pure_eq_ret, wp_deviceId]
  iintro ⟨#HR, HO, H0, H1, H2, H3, H4, H5, Hk⟩
  iapply (step_signal m K c _ 0 (dev1_px c) [1,2,3,4,5,6]) $$ [HO H0]
  · isplitr; · iexact HR
    isplitl [HO]; · iexact HO
    iexact H0
  iintro HO
  iapply (step_signal m K c _ 1 (dev2_px c) [2,3,4,5,6]) $$ [HO H1]
  · isplitr; · iexact HR
    isplitl [HO]; · iexact HO
    iexact H1
  iintro HO
  iapply (step_signal m K c _ 2 (dev3_px c) [3,4,5,6]) $$ [HO H2]
  · isplitr; · iexact HR
    isplitl [HO]; · iexact HO
    iexact H2
  iintro HO
  iapply (step_signal m K c _ 3 (dev4_px c) [4,5,6]) $$ [HO H3]
  · isplitr; · iexact HR
    isplitl [HO]; · iexact HO
    iexact H3
  iintro HO
  iapply (step_signal m K c _ 4 (dev5_px c) [5,6]) $$ [HO H4]
  · isplitr; · iexact HR
    isplitl [HO]; · iexact HO
    iexact H4
  iintro HO
  iapply (step_signal m K c _ 5 (dev6_px c) [6]) $$ [HO H5]
  · isplitr; · iexact HR
    isplitl [HO]; · iexact HO
    iexact H5
  iintro HO
  iapply (wp_done (F := F) c)
  iapply Hk; iexact HO

/-- A wait for a local copy while landings are owed. -/
theorem wait_copy (c : Dev nD) (j : Fin 4) (l : List (Fin 7)) : (levAts L lv : sProp 𝕄) ⊢ MayWait (c : Thread nD τ) (.dma (cJ j)) () (owesR c l) :=
  mayWait_landings c (.dma (cJ j)) 0 (by unfold lv; exact (if_pos (show (cJ j).val < 11 by simp only [cJ]; omega)).le) (by decide) l

theorem zero2 : (![0, 0] : Fin 2 → Nat) = fun _ => 0 := funext fun a => by fin_cases a <;> rfl

theorem read_i (f : (cc0_scratch1 : Ref sig .tc).ty.Contents (Elt F)) :
    iM.view.readAt (Elt F) (Rect.unit (s := S512x1) ![0, 0] S512x1.size inb_S512x1_S512x1_0_0).toLoadRect f = f :=
  Memref.readAt_unit_zero (Elt F) cc0_scratch1 zero2 _ f
theorem read_x (f : (cc0_scratch0 : Ref sig .tc).ty.Contents (Elt F)) :
    xM.view.readAt (Elt F) (Rect.unit (s := S512x256) ![0, 0] S512x256.size inb_S512x256_S512x256_0_0).toLoadRect f = f :=
  Memref.readAt_unit_zero (Elt F) cc0_scratch0 zero2 _ f

theorem copy_pays (c : Dev nD) (b b' : Ref sig .tc) (f : Buf (Elt F) ((c : Thread nD τ).loc b)) (f' : Buf (Elt F) ((c : Thread nD τ).loc b'))
    (w : b'.ty.shape.Idx → Elt F b'.ty.elt) (hw : w = f') (fd : Buf (Elt F) ((c : Thread nD τ).loc b')) :
    iprop(((View.whole b').loc (c : Thread nD τ) ↦[(View.whole b').set]{fullShare} ((View.whole b').write (Elt F) fd w Finset.univ))
        ∗ ((View.whole b).loc (c : Thread nD τ) ↦[(View.whole b).set]{fullShare} f))
      ⊢ (iprop(bufPt c b' f' ∗ bufPt c b f) : sProp 𝕄) := by
  subst hw
  rw [View.write_whole_univ, bufPt_whole, bufPt_whole]

theorem pay_idx (c : Dev nD) : dmaPay m c (cJ 0) = (iprop(bufPt c cc0_scratch1 (iF m c) ∗ bufPt c main_arg2 (iF m c)) : sProp 𝕄) := dmaPay_copy m c 0
theorem pay_x (c : Dev nD) : dmaPay m c (cJ 1) = (iprop(bufPt c cc0_scratch0 (xF m c) ∗ bufPt c main_arg0 (xF m c)) : sProp 𝕄) := dmaPay_copy m c 1
theorem pay_w (c : Dev nD) : dmaPay m c (cJ 2) = (iprop(bufPt c cc0_scratch2 (wF m c) ∗ bufPt c main_arg3 (wF m c)) : sProp 𝕄) := dmaPay_copy m c 2
theorem pay_out (c : Dev nD) : dmaPay m c (cJ 3) = (iprop(bufPt c main_v1 (outF m c) ∗ bufPt c cc0_scratch3 (outF m c)) : sProp 𝕄) := dmaPay_copy m c 3

theorem wp_part2 (c : Dev nD) (Kt : _ → sProp 𝕄) (f0 f1 f2) :
    iprop(records m K ∗ owe c (owesB c [6]) ∗ sigRes c 6
        ∗ (bufPt c main_arg2 (iF m c) ∗ bufPt c cc0_scratch1 f1 ∗ dutyTok EX (dmaC c (cJ 0)) 0 0)
        ∗ (bufPt c main_arg0 (xF m c) ∗ bufPt c cc0_scratch0 f0 ∗ dutyTok EX (dmaC c (cJ 1)) 0 0)
        ∗ (bufPt c main_arg3 (wF m c) ∗ bufPt c cc0_scratch2 f2 ∗ dutyTok EX (dmaC c (cJ 2)) 0 0)
        ∗ atOf c (cJ 0)
        ∗ ((owe c (landings c) ∗ credOf c (cJ 1) ∗ credOf c (cJ 2) ∗ zeroOf c (cJ 0) ∗ bufPt c cc0_scratch1 (iF m c) ∗ bufPt c main_arg2 (iF m c))
            -∗ Kt ⟨rowsV, placeV m c, k0_pay2 (F := F) (vw c) (iF m c)⟩))
      ⊢ WP c (run2 (F := F) c (vw c) (SemArray.scalar (sig.barrier 0 rfl)) (Scalar.muli (Scalar.xori (vw c) 7#32) 1#32)) Kt := by
  unfold placeV
  simp only [run2, k0_part2_eq_skeleton]; unfold k0_part2_skel
  simp only [semSignalWord, Prog.lift, Prog.bind_op, Prog.bind_ret, Prog.pure_eq_ret]
  iintro ⟨#HR, HO, H6, ⟨Hi, Hs1, Ht0⟩, ⟨Hx, Hs0, Ht1⟩, ⟨Hw, Hs2, Ht2⟩, Ha, Hk⟩
  iapply (step_signal m K c _ 6 (dev7_px c) []) $$ [HO H6]
  · isplitr; · iexact HR
    isplitl [HO]; · iexact HO
    iexact H6
  iintro HO
  ihave Hi := (Entails.of_eq (bufPt_whole (F := F) c main_arg2 (iF m c))) $$ Hi
  ihave Hs1 := (Entails.of_eq (bufPt_whole (F := F) c cc0_scratch1 f1)) $$ Hs1
  iapply (step_copy m K c 0 _ rfl (src := Memref.whole main_arg2) (dst := Memref.whole cc0_scratch1) (fs := iF m c) (fd := f1) rfl
      (copy_pays c main_arg2 cc0_scratch1 (iF m c) (iF m c) _ (View.read_whole _ _) f1)) $$ [Hi Hs1 Ht0]
  · isplitr; · iexact HR
    isplitl [Hi]; · iexact Hi
    isplitl [Hs1]; · iexact Hs1
    iexact Ht0
  iintro Hc0
  ihave Hx := (Entails.of_eq (bufPt_whole (F := F) c main_arg0 (xF m c))) $$ Hx
  ihave Hs0 := (Entails.of_eq (bufPt_whole (F := F) c cc0_scratch0 f0)) $$ Hs0
  iapply (step_copy m K c 1 _ rfl (src := Memref.whole main_arg0) (dst := Memref.whole cc0_scratch0) (fs := xF m c) (fd := f0) rfl
      (copy_pays c main_arg0 cc0_scratch0 (xF m c) (xF m c) _ (View.read_whole _ _) f0)) $$ [Hx Hs0 Ht1]
  · isplitr; · iexact HR
    isplitl [Hx]; · iexact Hx
    isplitl [Hs0]; · iexact Hs0
    iexact Ht1
  iintro Hc1
  ihave Hw := (Entails.of_eq (bufPt_whole (F := F) c main_arg3 (wF m c))) $$ Hw
  ihave Hs2 := (Entails.of_eq (bufPt_whole (F := F) c cc0_scratch2 f2)) $$ Hs2
  iapply (step_copy m K c 2 _ rfl (src := Memref.whole main_arg3) (dst := Memref.whole cc0_scratch2) (fs := wF m c) (fd := f2) rfl
      (copy_pays c main_arg3 cc0_scratch2 (wF m c) (wF m c) _ (View.read_whole _ _) f2)) $$ [Hw Hs2 Ht2]
  · isplitr; · iexact HR
    isplitl [Hw]; · iexact Hw
    isplitl [Hs2]; · iexact Hs2
    iexact Ht2
  iintro Hc2
  iapply (step_wait m K c (cJ 0) _ rfl (dst := iM) (src := iA) (amt_copy 0).symm (landings c) (wait_copy c 0 _)) $$ [HO Hc0 Ha]
  · isplitr; · iexact HR
    isplitl [Hc0]; · iexact Hc0
    isplitl [HO]; · iexact HO
    iexact Ha
  iintro ⟨HO, Hz, Hp⟩
  ihave Hp := (Entails.of_eq (pay_idx m c)) $$ Hp
  icases Hp with ⟨Hs1, Hi⟩
  iapply (wp_load 𝒱₀ (c : Thread nD τ) none Set.univ (m := iM) (Finset.subset_univ _)) $$ Hs1; iintro Hs1
  rw [read_i]
  iapply (wp_done (F := F) c)
  iapply Hk
  isplitl [HO]; · iexact HO
  isplitl [Hc1]; · iexact Hc1
  isplitl [Hc2]; · iexact Hc2
  isplitl [Hz]; · iexact Hz
  isplitl [Hs1]; · iexact Hs1
  iexact Hi

theorem yF_eq (c : Dev nD) : yF m c = k0_pay3 (k0_pay2 (F := F) (vw c) (iF m c)) (xF m c)
    (wM.view.readAt (Elt F) (Rect.unit (s := S2x256x512) ![0, 0, 0] S1x256x512.size inb_S2x256x512_S1x256x512_0_0_0).toLoadRect (wF m c))
    (wM.view.readAt (Elt F) (Rect.unit (s := S2x256x512) ![1, 0, 0] S1x256x512.size inb_S2x256x512_S1x256x512_1_0_0).toLoadRect (wF m c)) := rfl

/-- After the store of this device's rows, its slot holds what the filled buffer holds there. -/
theorem stored (c : Dev nD) (fg : cc0_scratch4.ty.Contents (Elt F)) :
    ((gM.access (Rect.unit (s := S8x50x512) (k0_off1 c) S1x50x512.size (k0_off1_inb c))).loc (c : Thread nD τ) ↦[slotS c]{fullShare}
        ((gM.access (Rect.unit (s := S8x50x512) (k0_off1 c) S1x50x512.size (k0_off1_inb c))).write (Elt F) fg (yF m c) Finset.univ) : sProp 𝕄)
      = slotPt c c fullShare (gF m) := by
  unfold slotPt
  exact pointsTo_congr fun i hi => store_slot m _ c (k0_off1_eq c) (k0_off1_inb c) fg i hi

theorem wp_part3 (c : Dev nD) (Kt : _ → sProp 𝕄) (fg) :
    iprop(records m K ∗ owe c (landings c) ∗ (credOf c (cJ 1) ∗ atOf c (cJ 1)) ∗ (credOf c (cJ 2) ∗ atOf c (cJ 2))
        ∗ slotPt c c fullShare fg ∗ cred (tallyAt (barC c) () 7) ∗ atPos EX (barC c) 0 ∅ 0
        ∗ ((owe c (landings c) ∗ zeroOf c (cJ 1) ∗ zeroOf c (cJ 2) ∗ semVal (barC c) 0
              ∗ bufPt c cc0_scratch0 (xF m c) ∗ bufPt c main_arg0 (xF m c) ∗ bufPt c cc0_scratch2 (wF m c) ∗ bufPt c main_arg3 (wF m c)
              ∗ slotPt c c fullShare (gF m) ∗ bigSep Finset.univ fun k : Fin 7 => (barPay c k : sProp 𝕄))
            -∗ Kt (Scalar.xori (vw c) 6#32)))
      ⊢ WP c (run3 (F := F) c (vw c) (SemArray.scalar (sig.barrier 0 rfl)) (k0_pay2 (F := F) (vw c) (iF m c))) Kt := by
  simp only [run3, k0_part3_eq_skeleton]; unfold k0_part3_skel
  simp only [semWaitWord, Prog.lift, Prog.bind_op, Prog.bind_ret, Prog.pure_eq_ret]
  iintro ⟨#HR, HO, ⟨Hc1, Ha1⟩, ⟨Hc2, Ha2⟩, Hg, HcB, HaB, Hk⟩
  iapply (step_wait m K c (cJ 1) _ rfl (dst := xM) (src := xA) (amt_copy 1).symm (landings c) (wait_copy c 1 _)) $$ [HO Hc1 Ha1]
  · isplitr; · iexact HR
    isplitl [Hc1]; · iexact Hc1
    isplitl [HO]; · iexact HO
    iexact Ha1
  iintro ⟨HO, Hz1, Hp⟩
  ihave Hp := (Entails.of_eq (pay_x m c)) $$ Hp
  icases Hp with ⟨Hs0, Hx⟩
  iapply (wp_load 𝒱₀ (c : Thread nD τ) none Set.univ (m := xM) (Finset.subset_univ _)) $$ Hs0; iintro Hs0
  rw [read_x]
  iapply (step_wait m K c (cJ 2) _ rfl (dst := wM) (src := wA) (amt_copy 2).symm (landings c) (wait_copy c 2 _)) $$ [HO Hc2 Ha2]
  · isplitr; · iexact HR
    isplitl [Hc2]; · iexact Hc2
    isplitl [HO]; · iexact HO
    iexact Ha2
  iintro ⟨HO, Hz2, Hp⟩
  ihave Hp := (Entails.of_eq (pay_w m c)) $$ Hp
  icases Hp with ⟨Hs2, Hw⟩
  iapply (wp_load 𝒱₀ (c : Thread nD τ) none Set.univ (m := wM) (Finset.subset_univ _)) $$ Hs2; iintro Hs2
  iapply (wp_load 𝒱₀ (c : Thread nD τ) none Set.univ (m := wM) (Finset.subset_univ _)) $$ Hs2; iintro Hs2
  iapply (wp_load 𝒱₀ (c : Thread nD τ) none Set.univ (m := gM) (S := slotS c) (load_subset _ c (k0_off1_eq c) _)) $$ [Hg]
  · unfold slotPt; iexact Hg
  iintro Hg
  rw [← yF_eq m c]
  iapply (wp_store 𝒱₀ (c : Thread nD τ) none Set.univ (m := gM) (r := Rect.unit (s := S8x50x512) (k0_off1 c) S1x50x512.size (k0_off1_inb c))
      (Mk := Finset.univ) (S := slotS c)
      (by rw [View.setOn_univ]; exact store_subset _ c (k0_off1_eq c) _)) $$ Hg
  iintro Hg
  ihave Hg := (Entails.of_eq (stored m c fg)) $$ Hg
  iapply (step_bar m K c) $$ [HO HcB HaB]
  · isplitr; · iexact HR
    isplitl [HcB]; · iexact HcB
    isplitl [HO]; · iexact HO
    iexact HaB
  iintro ⟨HO, HzB, Hp⟩
  iapply (wp_done (F := F) c)
  iapply Hk
  isplitl [HO]; · iexact HO
  isplitl [Hz1]; · iexact Hz1
  isplitl [Hz2]; · iexact Hz2
  isplitl [HzB]; · iexact HzB
  isplitl [Hs0]; · iexact Hs0
  isplitl [Hx]; · iexact Hx
  isplitl [Hs2]; · iexact Hs2
  isplitl [Hw]; · iexact Hw
  isplitl [Hg]; · iexact Hg
  iexact Hp

theorem wp_part4 (c : Dev nD) (Kt : _ → sProp 𝕄) :
    iprop(records m K ∗ owe c (owesR c [5, 1, 4, 6, 0, 2, 3]) ∗ sendRes m c 5 ∗ sendRes m c 1 ∗ sendRes m c 4 ∗ sendRes m c 6
        ∗ ((owe c (owesR c [0, 2, 3]) ∗ credOf c (sJ 5) ∗ credOf c (sJ 1) ∗ credOf c (sJ 4) ∗ credOf c (sJ 6))
            -∗ Kt ⟨Scalar.xori (vw c) 2#32, Scalar.xori (vw c) 5#32, Scalar.xori (vw c) 7#32, 1#32⟩))
      ⊢ WP c (run4 (F := F) c (vw c)) Kt := by
  simp only [run4, k0_part4_eq_skeleton]; unfold k0_part4_skel
  simp only [Prog.lift, Prog.bind_op, Prog.bind_ret, Prog.pure_eq_ret]
  iintro ⟨#HR, HO, H5, H1, H4, H6, Hk⟩
  iapply (step_send m K c _ 5 (dev8_px c) [1, 4, 6, 0, 2, 3] _ _ rfl rfl) $$ [HO H5]
  · isplitr; · iexact HR
    isplitl [HO]; · iexact HO
    iexact H5
  iintro ⟨Hc5, HO⟩
  iapply (step_send m K c _ 1 (dev9_px c) [4, 6, 0, 2, 3] _ _ rfl rfl) $$ [HO H1]
  · isplitr; · iexact HR
    isplitl [HO]; · iexact HO
    iexact H1
  iintro ⟨Hc1, HO⟩
  iapply (step_send m K c _ 4 (dev10_px c) [6, 0, 2, 3] _ _ rfl rfl) $$ [HO H4]
  · isplitr; · iexact HR
    isplitl [HO]; · iexact HO
    iexact H4
  iintro ⟨Hc4, HO⟩
  iapply (step_send m K c _ 6 (dev11_px c) [0, 2, 3] _ _ rfl rfl) $$ [HO H6]
  · isplitr; · iexact HR
    isplitl [HO]; · iexact HO
    iexact H6
  iintro ⟨Hc6, HO⟩
  iapply (wp_done (F := F) c)
  iapply Hk
  isplitl [HO]; · iexact HO
  isplitl [Hc5]; · iexact Hc5
  isplitl [Hc1]; · iexact Hc1
  isplitl [Hc4]; · iexact Hc4
  iexact Hc6

theorem wp_part5 (c : Dev nD) (Kt : _ → sProp 𝕄) :
    iprop(records m K ∗ owe c (owesR c [0, 2, 3]) ∗ sendRes m c 0 ∗ sendRes m c 2 ∗ sendRes m c 3
        ∗ ((owe c (owesR c []) ∗ credOf c (sJ 0) ∗ credOf c (sJ 2) ∗ credOf c (sJ 3))
            -∗ Kt ⟨Scalar.xori (vw c) 1#32, Scalar.xori (vw c) 3#32, Scalar.xori (vw c) 4#32, Scalar.xori (vw c) 1#32, Scalar.xori (vw c) 3#32⟩))
      ⊢ WP c (run5 (F := F) c (vw c) 1#32) Kt := by
  simp only [run5, k0_part5_eq_skeleton]; unfold k0_part5_skel
  simp only [Prog.lift, Prog.bind_op, Prog.bind_ret, Prog.pure_eq_ret]
  iintro ⟨#HR, HO, H0, H2, H3, Hk⟩
  iapply (step_send m K c _ 0 (dev12_px c) [2, 3] _ _ rfl rfl) $$ [HO H0]
  · isplitr; · iexact HR
    isplitl [HO]; · iexact HO
    iexact H0
  iintro ⟨Hc0, HO⟩
  iapply (step_send m K c _ 2 (dev13_px c) [3] _ _ rfl rfl) $$ [HO H2]
  · isplitr; · iexact HR
    isplitl [HO]; · iexact HO
    iexact H2
  iintro ⟨Hc2, HO⟩
  iapply (step_send m K c _ 3 (dev14_px c) [] _ _ rfl rfl) $$ [HO H3]
  · isplitr; · iexact HR
    isplitl [HO]; · iexact HO
    iexact H3
  iintro ⟨Hc3, HO⟩
  iapply (wp_done (F := F) c)
  iapply Hk
  isplitl [HO]; · iexact HO
  isplitl [Hc0]; · iexact Hc0
  isplitl [Hc2]; · iexact Hc2
  iexact Hc3

end Cert.Exchange

end
-- ==== Proof.Gather.lean ====
/-
# 01_k — `Gather`: the second half of the body

The landings, the sum over the eight blocks, the copy out, and the end of the sendings.
-/
module

public import proofs.«01_k».proof.Proof.Send

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- What the wait for the `k`-th peer's block takes. -/
abbrev recvRes (c : Dev nD) (k : Fin 7) : sProp 𝕄 := iprop(credOf c (rJ k) ∗ atOf c (rJ k))
/-- What the wait for the end of the `k`-th sending takes. -/
abbrev sentRes (c : Dev nD) (k : Fin 7) : sProp 𝕄 := iprop(credOf c (sJ k) ∗ atOf c (sJ k))
/-- Slot `p`, filled. -/
abbrev slotG (c p : Dev nD) (q : PosShare TreeShare) : sProp 𝕄 := slotPt c p q (gF m)

/-- The wait for the `k`-th peer's block. -/
theorem step_recv (c : Dev nD) (k : Fin 7) {src : Memref sig .tc .vmem S1x50x512 .bf16} (sem : DmaSem sig) (hs : sem = rJ k)
    {hsrc : src.view.WordExact} {hdst : (slotM c).view.WordExact}
    {α : Type} {Q : α → sProp 𝕄} {kk : PUnit → Prog (TpuEff nD τ sig (Elt F) Λ₀ .tc) α} :
    iprop(records m K ∗ owe c (owesR c []) ∗ recvRes c k)
      ⊢ iprop(((owe c (owesR c []) ∗ zeroOf c (rJ k) ∗ slotG m c (px c k) fullShare) -∗ WP c (kk ⟨⟩) Q)
          -∗ WP c (.op (.waitDma2 sem src (slotM c) hsrc hdst) kk) Q) := by
  iintro ⟨#HR, HO, Hc, Ha⟩ Hk
  iapply (step_wait m K c (rJ k) sem hs ((slot_credit c).trans (amt_recv k).symm) (owesR c []) (mayWait_none c _)) $$ [HO Hc Ha]
  · isplitr; · iexact HR
    isplitl [Hc]; · iexact Hc
    isplitl [HO]; · iexact HO
    iexact Ha
  iintro ⟨HO, Hz, Hp⟩
  ihave Hp := (Entails.of_eq (dmaPay_recv m c k)) $$ Hp
  iapply Hk
  isplitl [HO]; · iexact HO
  isplitl [Hz]; · iexact Hz
  iexact Hp

/-- The wait for the end of the sending to the `k`-th peer. -/
theorem step_sent (c : Dev nD) (k : Fin 7) {src : Memref sig .tc .vmem S1x50x512 .bf16} (sem : DmaSem sig) (hs : sem = sJ k)
    {hsrc : src.view.WordExact} {hdst : (slotM c).view.WordExact}
    {α : Type} {Q : α → sProp 𝕄} {kk : PUnit → Prog (TpuEff nD τ sig (Elt F) Λ₀ .tc) α} :
    iprop(records m K ∗ owe c (owesR c []) ∗ sentRes c k)
      ⊢ iprop(((owe c (owesR c []) ∗ zeroOf c (sJ k) ∗ slotG m c c (lent k)) -∗ WP c (kk ⟨⟩) Q)
          -∗ WP c (.op (.waitDma2 sem src (slotM c) hsrc hdst) kk) Q) := by
  iintro ⟨#HR, HO, Hc, Ha⟩ Hk
  iapply (step_wait m K c (sJ k) sem hs ((slot_credit c).trans (amt_send k).symm) (owesR c []) (mayWait_none c _)) $$ [HO Hc Ha]
  · isplitr; · iexact HR
    isplitl [Hc]; · iexact Hc
    isplitl [HO]; · iexact HO
    iexact Ha
  iintro ⟨HO, Hz, Hp⟩
  ihave Hp := (Entails.of_eq (dmaPay_send m c k)) $$ Hp
  iapply Hk
  isplitl [HO]; · iexact HO
  isplitl [Hz]; · iexact Hz
  iexact Hp

/-- A load of a filled slot reads what its device computed. -/
theorem load_slot (c : Dev nD) (off : Fin 3 → Nat) (p : Dev nD) (hoff : off = ![p.val, 0, 0])
    (inb : ∀ a, off a + S1x50x512.size a ≤ S8x50x512.size a) (q : PosShare TreeShare)
    {hl : gM.view.LoadsAt (Rect.unit (s := S8x50x512) off S1x50x512.size inb).toLoadRect}
    {α : Type} {Q : α → sProp 𝕄} {kk : Vec F S1x50x512 .bf16 → Prog (TpuEff nD τ sig (Elt F) Λ₀ .tc) α} :
    slotG m c p q ⊢ iprop((slotG m c p q -∗ WP c (kk (yF m p)) Q)
      -∗ WP c (.op (.load gM (Rect.unit (s := S8x50x512) off S1x50x512.size inb).toLoadRect hl) kk) Q) := by
  have h := wp_load 𝒱₀ (c : Thread nD τ) none Set.univ (m := gM) (S := slotS p) (q := q) (f := gF m) (Q := Q) (defs := defs₀ (F := F)) (hl := hl) (k := kk) (Γ := PendingWaitsCtx.empty)
    (load_subset off p hoff inb)
  rw [read_slot m off p hoff inb] at h
  exact h

theorem off_1 (c : Dev nD) : k0_off3 c 1#32 = ![(px c 0).val, 0, 0] := off3_px c 0
theorem off_2 (c : Dev nD) : k0_off3 c 2#32 = ![(px c 1).val, 0, 0] := off3_px c 1
theorem off_3 (c : Dev nD) : k0_off3 c 3#32 = ![(px c 2).val, 0, 0] := off3_px c 2
theorem off_4 (c : Dev nD) : k0_off3 c 4#32 = ![(px c 3).val, 0, 0] := off3_px c 3
theorem off_5 (c : Dev nD) : k0_off3 c 5#32 = ![(px c 4).val, 0, 0] := off3_px c 4
theorem off_6 (c : Dev nD) : k0_off3 c 6#32 = ![(px c 5).val, 0, 0] := off3_px c 5
theorem off_7 (c : Dev nD) : k0_off3 c 7#32 = ![(px c 6).val, 0, 0] := off3_px c 6

theorem wp_part6 (c : Dev nD) (Kt : _ → sProp 𝕄) :
    Kt ⟨Scalar.xori (vw c) 4#32, Scalar.xori (vw c) 6#32, Scalar.xori (vw c) 2#32, Scalar.xori (vw c) 5#32, Scalar.xori (vw c) 7#32, nearV m c, k0_pay5 (vw c) rowsV (placeV m c), k0_pay6 (vw c) (placeV m c)⟩
      ⊢ WP c (run6 (F := F) (vw c) rowsV (placeV m c) (Scalar.xori (vw c) 1#32) (Scalar.xori (vw c) 3#32)) Kt := by
  unfold nearV
  simp only [run6, k0_part6_eq_skeleton]; unfold k0_part6_skel
  simp only [Prog.pure_eq_ret]
  exact wp_done (F := F) c _ Kt

theorem wp_part7 (c : Dev nD) (Kt : _ → sProp 𝕄) :
    iprop(records m K ∗ owe c (owesR c []) ∗ recvRes c 0 ∗ recvRes c 2
        ∗ ((owe c (owesR c []) ∗ zeroOf c (rJ 0) ∗ zeroOf c (rJ 2) ∗ slotG m c (px c 0) fullShare ∗ slotG m c (px c 2) fullShare) -∗ Kt (farV m c)))
      ⊢ WP c (run7 (F := F) c rowsV (placeV m c) (Scalar.xori (vw c) 1#32) (Scalar.xori (vw c) 3#32) (Scalar.xori (vw c) 4#32) (Scalar.xori (vw c) 5#32) (Scalar.xori (vw c) 7#32) (k0_pay5 (vw c) rowsV (placeV m c)) (k0_pay6 (vw c) (placeV m c))) Kt := by
  unfold farV
  simp only [run7, k0_part7_eq_skeleton]; unfold k0_part7_skel
  simp only [Prog.lift, Prog.bind_op, Prog.bind_ret, Prog.pure_eq_ret]
  iintro ⟨#HR, HO, H0, H2, Hk⟩
  iapply (step_recv m K c 0 _ rfl) $$ [HO H0]
  · isplitr; · iexact HR
    isplitl [HO]; · iexact HO
    iexact H0
  iintro ⟨HO, Hz0, Hg0⟩
  iapply (step_recv m K c 2 _ rfl) $$ [HO H2]
  · isplitr; · iexact HR
    isplitl [HO]; · iexact HO
    iexact H2
  iintro ⟨HO, Hz2, Hg2⟩
  iapply (wp_done (F := F) c)
  iapply Hk
  isplitl [HO]; · iexact HO
  isplitl [Hz0]; · iexact Hz0
  isplitl [Hz2]; · iexact Hz2
  isplitl [Hg0]; · iexact Hg0
  iexact Hg2

theorem wp_part8 (c : Dev nD) (Kt : _ → sProp 𝕄) :
    iprop(records m K ∗ owe c (owesR c []) ∗ recvRes c 3 ∗ recvRes c 5
        ∗ slotG m c c kept ∗ slotG m c (px c 0) fullShare ∗ slotG m c (px c 2) fullShare
        ∗ ((owe c (owesR c []) ∗ zeroOf c (rJ 3) ∗ zeroOf c (rJ 5) ∗ slotG m c c kept
            ∗ slotG m c (px c 0) fullShare ∗ slotG m c (px c 2) fullShare ∗ slotG m c (px c 3) fullShare ∗ slotG m c (px c 5) fullShare) -∗ Kt (nearSum m c)))
      ⊢ WP c (run8 (F := F) c (vw c) (Scalar.xori (vw c) 6#32) (Scalar.xori (vw c) 2#32) (Scalar.xori (vw c) 1#32) (Scalar.xori (vw c) 3#32) (Scalar.xori (vw c) 4#32) (nearV m c)) Kt := by
  unfold nearSum
  simp only [run8, k0_part8_eq_skeleton]; unfold k0_part8_skel
  simp only [Prog.lift, Prog.bind_op, Prog.bind_ret, Prog.pure_eq_ret]
  iintro ⟨#HR, HO, H3, H5, Hg, Hg0, Hg2, Hk⟩
  iapply (step_recv m K c 3 _ rfl) $$ [HO H3]
  · isplitr; · iexact HR
    isplitl [HO]; · iexact HO
    iexact H3
  iintro ⟨HO, Hz3, Hg3⟩
  iapply (load_slot m c _ c (k0_off1_eq c) _ kept) $$ Hg; iintro Hg
  iapply (load_slot m c _ (px c 0) (off_1 c) _ fullShare) $$ Hg0; iintro Hg0
  iapply (load_slot m c _ (px c 2) (off_3 c) _ fullShare) $$ Hg2; iintro Hg2
  iapply (load_slot m c _ (px c 3) (off_4 c) _ fullShare) $$ Hg3; iintro Hg3
  iapply (step_recv m K c 5 _ rfl) $$ [HO H5]
  · isplitr; · iexact HR
    isplitl [HO]; · iexact HO
    iexact H5
  iintro ⟨HO, Hz5, Hg5⟩
  iapply (wp_done (F := F) c)
  iapply Hk
  isplitl [HO]; · iexact HO
  isplitl [Hz3]; · iexact Hz3
  isplitl [Hz5]; · iexact Hz5
  isplitl [Hg]; · iexact Hg
  isplitl [Hg0]; · iexact Hg0
  isplitl [Hg2]; · iexact Hg2
  isplitl [Hg3]; · iexact Hg3
  iexact Hg5

theorem wp_part9 (c : Dev nD) (Kt : _ → sProp 𝕄) (f3) :
    iprop(records m K ∗ owe c (owesR c []) ∗ recvRes c 1 ∗ recvRes c 4 ∗ recvRes c 6 ∗ slotG m c (px c 5) fullShare ∗ bufPt c cc0_scratch3 f3
        ∗ ((owe c (owesR c []) ∗ zeroOf c (rJ 1) ∗ zeroOf c (rJ 4) ∗ zeroOf c (rJ 6)
            ∗ slotG m c (px c 5) fullShare ∗ slotG m c (px c 1) fullShare ∗ slotG m c (px c 4) fullShare ∗ slotG m c (px c 6) fullShare
            ∗ bufPt c cc0_scratch3 f3) -∗ Kt (allSum m c)))
      ⊢ WP c (run9 (F := F) c (Scalar.xori (vw c) 5#32) (Scalar.xori (vw c) 7#32) (Scalar.xori (vw c) 6#32) (Scalar.xori (vw c) 2#32) (Scalar.xori (vw c) 5#32) (Scalar.xori (vw c) 7#32) (farV m c) (nearSum m c)) Kt := by
  unfold allSum
  simp only [run9, k0_part9_eq_skeleton]; unfold k0_part9_skel
  simp only [Prog.lift, Prog.bind_op, Prog.bind_ret, Prog.pure_eq_ret]
  iintro ⟨#HR, HO, H1, H4, H6, Hg5, Hs3, Hk⟩
  iapply (step_recv m K c 1 _ rfl) $$ [HO H1]
  · isplitr; · iexact HR
    isplitl [HO]; · iexact HO
    iexact H1
  iintro ⟨HO, Hz1, Hg1⟩
  iapply (step_recv m K c 4 _ rfl) $$ [HO H4]
  · isplitr; · iexact HR
    isplitl [HO]; · iexact HO
    iexact H4
  iintro ⟨HO, Hz4, Hg4⟩
  iapply (step_recv m K c 6 _ rfl) $$ [HO H6]
  · isplitr; · iexact HR
    isplitl [HO]; · iexact HO
    iexact H6
  iintro ⟨HO, Hz6, Hg6⟩
  iapply (load_slot m c _ (px c 5) (off_6 c) _ fullShare) $$ Hg5; iintro Hg5
  iapply (load_slot m c _ (px c 1) (off_2 c) _ fullShare) $$ Hg1; iintro Hg1
  iapply (load_slot m c _ (px c 4) (off_5 c) _ fullShare) $$ Hg4; iintro Hg4
  iapply (load_slot m c _ (px c 6) (off_7 c) _ fullShare) $$ Hg6; iintro Hg6
  iapply (wp_load 𝒱₀ (c : Thread nD τ) none Set.univ (m := oM) (Finset.subset_univ _)) $$ Hs3; iintro Hs3
  iapply (wp_done (F := F) c)
  iapply Hk
  isplitl [HO]; · iexact HO
  isplitl [Hz1]; · iexact Hz1
  isplitl [Hz4]; · iexact Hz4
  isplitl [Hz6]; · iexact Hz6
  isplitl [Hg5]; · iexact Hg5
  isplitl [Hg1]; · iexact Hg1
  isplitl [Hg4]; · iexact Hg4
  isplitl [Hg6]; · iexact Hg6
  iexact Hs3

theorem write_o (f w : (cc0_scratch3 : Ref sig .tc).ty.Contents (Elt F)) :
    ((oM : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_scratch3 zero2 _ f w

theorem stored_out (c : Dev nD) :
    (((oM : Memref sig .tc .vmem S512x512 .f32).access (Rect.unit (s := S512x512) ![0, 0] S512x512.size inb_S512x512_S512x512_0_0)).loc (c : Thread nD τ)
        ↦{fullShare} (k0_pay10 (allSum m c)) : sProp 𝕄) = bufPt c cc0_scratch3 (outF m c) := rfl

theorem wp_part10 (c : Dev nD) (Kt : PUnit → sProp 𝕄) (f3 fo) :
    iprop(records m K ∗ owe c (owesR c []) ∗ bufPt c cc0_scratch3 f3 ∗ bufPt c main_v1 fo ∗ dutyTok EX (dmaC c (cJ 3)) 0 0
        ∗ sentRes c 5 ∗ sentRes c 1 ∗ sentRes c 4 ∗ sentRes c 6
        ∗ ((owe c (owesR c []) ∗ credOf c (cJ 3) ∗ zeroOf c (sJ 5) ∗ zeroOf c (sJ 1) ∗ zeroOf c (sJ 4) ∗ zeroOf c (sJ 6)
            ∗ slotG m c c (lent 5) ∗ slotG m c c (lent 1) ∗ slotG m c c (lent 4) ∗ slotG m c c (lent 6)) -∗ Kt ⟨⟩))
      ⊢ WP c (run10 (F := F) c (allSum m c)) Kt := by
  simp only [run10, k0_part10_eq_skeleton]; unfold k0_part10_skel
  simp only [Prog.lift, Prog.bind_op, Prog.bind_ret, Prog.pure_eq_ret]
  iintro ⟨#HR, HO, Hs3, Ho, Ht3, H5, H1, H4, H6, Hk⟩
  iapply (wp_store 𝒱₀ (c : Thread nD τ) none Set.univ (m := oM) (r := Rect.unit (s := S512x512) ![0, 0] S512x512.size inb_S512x512_S512x512_0_0) (Mk := Finset.univ) (Finset.subset_univ _)) $$ Hs3
  iintro Hs3
  rw [write_o]
  ihave Hs3 := (Entails.of_eq (stored_out m c)) $$ Hs3
  ihave Hs3 := (Entails.of_eq (bufPt_whole (F := F) c cc0_scratch3 (outF m c))) $$ Hs3
  ihave Ho := (Entails.of_eq (bufPt_whole (F := F) c main_v1 fo)) $$ Ho
  iapply (step_copy m K c 3 _ rfl (src := Memref.whole cc0_scratch3) (dst := Memref.whole main_v1) (fs := outF m c) (fd := fo) rfl
      (copy_pays c cc0_scratch3 main_v1 (outF m c) (outF m c) _ (View.read_whole _ _) fo)) $$ [Hs3 Ho Ht3]
  · isplitr; · iexact HR
    isplitl [Hs3]; · iexact Hs3
    isplitl [Ho]; · iexact Ho
    iexact Ht3
  iintro Hc3
  iapply (step_sent m K c 5 _ rfl) $$ [HO H5]
  · isplitr; · iexact HR
    isplitl [HO]; · iexact HO
    iexact H5
  iintro ⟨HO, Hz5, Hl5⟩
  iapply (step_sent m K c 1 _ rfl) $$ [HO H1]
  · isplitr; · iexact HR
    isplitl [HO]; · iexact HO
    iexact H1
  iintro ⟨HO, Hz1, Hl1⟩
  iapply (step_sent m K c 4 _ rfl) $$ [HO H4]
  · isplitr; · iexact HR
    isplitl [HO]; · iexact HO
    iexact H4
  iintro ⟨HO, Hz4, Hl4⟩
  iapply (step_sent m K c 6 _ rfl) $$ [HO H6]
  · isplitr; · iexact HR
    isplitl [HO]; · iexact HO
    iexact H6
  iintro ⟨HO, Hz6, Hl6⟩
  iapply (wp_done (F := F) c)
  iapply Hk
  isplitl [HO]; · iexact HO
  isplitl [Hc3]; · iexact Hc3
  isplitl [Hz5]; · iexact Hz5
  isplitl [Hz1]; · iexact Hz1
  isplitl [Hz4]; · iexact Hz4
  isplitl [Hz6]; · iexact Hz6
  isplitl [Hl5]; · iexact Hl5
  isplitl [Hl1]; · iexact Hl1
  isplitl [Hl4]; · iexact Hl4
  iexact Hl6

end Cert.Exchange

end
-- ==== Proof.Body.lean ====
/-
# 01_k — `Body`: the whole body

The body of the launch on device `c`: from its arguments, its semaphores and its rights, to the result in its output and every
semaphore back at zero.
-/
module

public import proofs.«01_k».proof.Proof.Gather

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Separating families into their members -/

theorem bigSep_peers (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_copies (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_leaves (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_devs (c : Dev nD) (Φ : Dev nD → sProp 𝕄) : bigSep Finset.univ Φ
    = iprop(Φ c ∗ Φ (px c 0) ∗ Φ (px c 1) ∗ Φ (px c 2) ∗ Φ (px c 3) ∗ Φ (px c 4) ∗ Φ (px c 5) ∗ Φ (px c 6)) :=
  bigSep_univ_eq_bigSepL [c, px c 0, px c 1, px c 2, px c 3, px c 4, px c 5, px c 6] (by revert c; decide) (by revert c; decide) Φ
theorem bigSep_sems (Φ : Fin 18 → sProp 𝕄) : bigSep Finset.univ Φ
    = iprop(Φ (cJ 0) ∗ Φ (cJ 1) ∗ Φ (cJ 2) ∗ Φ (cJ 3) ∗ Φ (sJ 0) ∗ Φ (sJ 1) ∗ Φ (sJ 2) ∗ Φ (sJ 3) ∗ Φ (sJ 4) ∗ Φ (sJ 5) ∗ Φ (sJ 6) ∗ Φ (rJ 0) ∗ Φ (rJ 1) ∗ Φ (rJ 2) ∗ Φ (rJ 3) ∗ Φ (rJ 4) ∗ Φ (rJ 5) ∗ Φ (rJ 6)) :=
  bigSep_univ_eq_bigSepL [cJ 0, cJ 1, cJ 2, cJ 3, sJ 0, sJ 1, sJ 2, sJ 3, sJ 4, sJ 5, sJ 6, rJ 0, rJ 1, rJ 2, rJ 3, rJ 4, rJ 5, rJ 6] (by decide) (by decide) Φ

/-- The gathering buffer is its eight slots. -/
theorem gather_slots (c : Dev nD) (f : Buf (Elt F) ((c : Thread nD τ).loc cc0_scratch4)) : (bufPt c cc0_scratch4 f : sProp 𝕄)
    = iprop(slotPt c c fullShare f ∗ slotPt c (px c 0) fullShare f ∗ slotPt c (px c 1) fullShare f ∗ slotPt c (px c 2) fullShare f ∗ slotPt c (px c 3) fullShare f ∗ slotPt c (px c 4) fullShare f ∗ slotPt c (px c 5) fullShare f ∗ slotPt c (px c 6) fullShare f) := by
  have h : (bufPt c cc0_scratch4 f : sProp 𝕄) = bigSep Finset.univ fun p : Dev nD => slotPt c p fullShare f := by
    unfold slotPt
    exact (congrArg (fun I => (((c : Thread nD τ).loc cc0_scratch4) ↦[I]{fullShare} f : sProp 𝕄)) slotS_cover).symm.trans
      (pointsTo_biUnion (ℓ := (c : Thread nD τ).loc cc0_scratch4) (q := fullShare) (f := f) Finset.univ slotS fun p _ q _ h => slotS_disjoint p q h)
  rw [h, bigSep_devs c]

/-- A device's own slot is the share it keeps and the shares it lends. -/
theorem own_slot (c : Dev nD) (f : Buf (Elt F) ((c : Thread nD τ).loc cc0_scratch4)) : (slotPt c c fullShare f : sProp 𝕄)
    = iprop(slotPt c c kept f ∗ slotPt c c (lent 0) f ∗ slotPt c c (lent 1) f ∗ slotPt c c (lent 2) f ∗ slotPt c c (lent 3) f ∗ slotPt c c (lent 4) f ∗ slotPt c c (lent 5) f ∗ slotPt c c (lent 6) f) := by
  have h : (slotPt c c fullShare f : sProp 𝕄)
      = bigSep Finset.univ fun i : Fin (2 ^ 3) => ((c : Thread nD τ).loc cc0_scratch4) ↦[slotS c]{ShareLeaves.leaf 3 fullShare i} f :=
    ShareLeaves.pointsTo_leaves _ _ 3 fullShare
  exact h.trans (bigSep_leaves _)

/-- The rights device `c` holds: to signal its peers, to its copies, to its sendings, and to their landings. -/
def payToks (c : Dev nD) : sProp 𝕄 :=
  iprop((bigSep Finset.univ fun k : Fin 7 => dutyTok EX (barC (px c k)) 0 k) ∗ (bigSep Finset.univ fun j : Fin 4 => dutyTok EX (dmaC c (cJ j)) 0 0)
    ∗ (bigSep Finset.univ fun k : Fin 7 => dutyTok EX (dmaC c (sJ k)) 0 0) ∗ (bigSep Finset.univ fun k : Fin 7 => dutyTok EX (dmaC (px c k) (rJ k)) 0 0))

/-- The arguments device `c` reads. -/
def args (c : Dev nD) : sProp 𝕄 := iprop(bufPt c main_arg0 (xF m c) ∗ bufPt c main_arg2 (iF m c) ∗ bufPt c main_arg3 (wF m c))

/-- The buffers of the launch, whatever they hold. -/
def scratch (c : Dev nD) : sProp 𝕄 :=
  iprop((∃ f, bufPt c cc0_scratch0 f) ∗ (∃ f, bufPt c cc0_scratch1 f) ∗ (∃ f, bufPt c cc0_scratch2 f) ∗ (∃ f, bufPt c cc0_scratch3 f) ∗ (∃ f, bufPt c cc0_scratch4 f))

/-- The rights and positions device `c` starts with. -/
def linear (c : Dev nD) : sProp 𝕄 := iprop((atPos EX (barC c) 0 ∅ 0 ∗ bigSep Finset.univ fun j : Fin 18 => atOf c j) ∗ payToks c)
/-- The credit that is coming to device `c`. -/
def coming (c : Dev nD) : sProp 𝕄 := iprop(cred (tallyAt (barC c) () 7) ∗ bigSep Finset.univ fun k : Fin 7 => credOf c (rJ k))

set_option maxHeartbeats 1600000 in
/-- The body, run on device `c`. -/
theorem sound_body (c : Dev nD) (Kt : PUnit → sProp 𝕄) :
    iprop((records m K ∗ owe c (O₀ c) ∗ linear c ∗ coming c ∗ args m c ∗ (∃ f, bufPt c main_v1 f) ∗ scratch c)
        ∗ ((owe c 0 ∗ semVal (barC c) 0 ∗ (bigSep Finset.univ fun j : Fin 18 => zeroOf c j) ∗ args m c ∗ bufPt c main_v1 (outF m c) ∗ scratch c) -∗ Kt ⟨⟩))
      ⊢ WP c (cc0_body (F := F) xA (Memref.isWhole_whole _) iA (Memref.isWhole_whole _) wA (Memref.isWhole_whole _) oA (Memref.isWhole_whole _) xM (Memref.isWhole_whole _) iM (Memref.isWhole_whole _) wM (Memref.isWhole_whole _) oM (Memref.isWhole_whole _) gM (Memref.isWhole_whole _) cc0_scratch5 cc0_scratch6 cc0_scratch7) Kt := by
  simp only [cc0_body_eq_skeleton]; unfold cc0_body_skel
  simp only [Prog.lift, Prog.bind_op, Prog.bind_ret, Prog.pure_eq_ret, WP, wp_bind]
  unfold linear coming payToks args scratch
  rw [bigSep_sems, bigSep_sems]
  simp only [bigSep_peers, bigSep_copies]
  iintro ⟨⟨#HR, HO, ⟨⟨HaB, Hac0, Hac1, Hac2, Hac3, Has0, Has1, Has2, Has3, Has4, Has5, Has6, Har0, Har1, Har2, Har3, Har4, Har5, Har6⟩, ⟨Hts0, Hts1, Hts2, Hts3, Hts4, Hts5, Hts6⟩, ⟨Htc0, Htc1, Htc2, Htc3⟩, ⟨Htd0, Htd1, Htd2, Htd3, Htd4, Htd5, Htd6⟩, ⟨Htr0, Htr1, Htr2, Htr3, Htr4, Htr5, Htr6⟩⟩, ⟨HcB, Hcr0, Hcr1, Hcr2, Hcr3, Hcr4, Hcr5, Hcr6⟩, ⟨Hx, Hi, Hw⟩, ⟨%fo, Ho⟩, ⟨%f0, Hs0⟩, ⟨%f1, Hs1⟩, ⟨%f2, Hs2⟩, ⟨%f3, Hs3⟩, ⟨%f4, Hs4⟩⟩, Hk⟩
  ihave Hs4 := (Entails.of_eq (gather_slots (F := F) c f4)) $$ Hs4
  icases Hs4 with ⟨Hg, Hg0, Hg1, Hg2, Hg3, Hg4, Hg5, Hg6⟩
  iapply (wp_part1 m K c _)
  isplitr; · iexact HR
  isplitl [HO]; · iexact HO
  isplitl [Hts0 Hg0]
  · isplitl [Hts0]; · iexact Hts0
    iexists f4; iexact Hg0
  isplitl [Hts1 Hg1]
  · isplitl [Hts1]; · iexact Hts1
    iexists f4; iexact Hg1
  isplitl [Hts2 Hg2]
  · isplitl [Hts2]; · iexact Hts2
    iexists f4; iexact Hg2
  isplitl [Hts3 Hg3]
  · isplitl [Hts3]; · iexact Hts3
    iexists f4; iexact Hg3
  isplitl [Hts4 Hg4]
  · isplitl [Hts4]; · iexact Hts4
    iexists f4; iexact Hg4
  isplitl [Hts5 Hg5]
  · isplitl [Hts5]; · iexact Hts5
    iexists f4; iexact Hg5
  iintro HO
  iapply (wp_part2 m K c _ f0 f1 f2)
  isplitr; · iexact HR
  isplitl [HO]; · iexact HO
  isplitl [Hts6 Hg6]
  · isplitl [Hts6]; · iexact Hts6
    iexists f4; iexact Hg6
  isplitl [Hi Hs1 Htc0]
  · isplitl [Hi]; · iexact Hi
    isplitl [Hs1]; · iexact Hs1
    iexact Htc0
  isplitl [Hx Hs0 Htc1]
  · isplitl [Hx]; · iexact Hx
    isplitl [Hs0]; · iexact Hs0
    iexact Htc1
  isplitl [Hw Hs2 Htc2]
  · isplitl [Hw]; · iexact Hw
    isplitl [Hs2]; · iexact Hs2
    iexact Htc2
  isplitl [Hac0]; · iexact Hac0
  iintro ⟨HO, Hcc1, Hcc2, Hzc0, Hs1, Hi⟩
  iapply (wp_part3 m K c _ f4)
  isplitr; · iexact HR
  isplitl [HO]; · iexact HO
  isplitl [Hcc1 Hac1]
  · isplitl [Hcc1]; · iexact Hcc1
    iexact Hac1
  isplitl [Hcc2 Hac2]
  · isplitl [Hcc2]; · iexact Hcc2
    iexact Hac2
  isplitl [Hg]; · iexact Hg
  isplitl [HcB]; · iexact HcB
  isplitl [HaB]; · iexact HaB
  iintro ⟨HO, Hzc1, Hzc2, HzB, Hs0, Hx, Hs2, Hw, Hg, Hp⟩
  ihave Hp := (Entails.of_eq (bigSep_peers (F := F) _)) $$ Hp
  unfold barPay
  icases Hp with ⟨Hb0, Hb1, Hb2, Hb3, Hb4, Hb5, Hb6⟩
  ihave Hg := (Entails.of_eq (own_slot (F := F) c (gF m))) $$ Hg
  icases Hg with ⟨Hg, Hl0, Hl1, Hl2, Hl3, Hl4, Hl5, Hl6⟩
  iapply (wp_part4 m K c _)
  isplitr; · iexact HR
  isplitl [HO]; · iexact HO
  isplitl [Hl5 Hb5 Htd5 Htr5]
  · isplitl [Hl5]; · iexact Hl5
    isplitl [Hb5]; · iexact Hb5
    isplitl [Htd5]; · iexact Htd5
    iexact Htr5
  isplitl [Hl1 Hb1 Htd1 Htr1]
  · isplitl [Hl1]; · iexact Hl1
    isplitl [Hb1]; · iexact Hb1
    isplitl [Htd1]; · iexact Htd1
    iexact Htr1
  isplitl [Hl4 Hb4 Htd4 Htr4]
  · isplitl [Hl4]; · iexact Hl4
    isplitl [Hb4]; · iexact Hb4
    isplitl [Htd4]; · iexact Htd4
    iexact Htr4
  isplitl [Hl6 Hb6 Htd6 Htr6]
  · isplitl [Hl6]; · iexact Hl6
    isplitl [Hb6]; · iexact Hb6
    isplitl [Htd6]; · iexact Htd6
    iexact Htr6
  iintro ⟨HO, Hcs5, Hcs1, Hcs4, Hcs6⟩
  iapply (wp_part5 m K c _)
  isplitr; · iexact HR
  isplitl [HO]; · iexact HO
  isplitl [Hl0 Hb0 Htd0 Htr0]
  · isplitl [Hl0]; · iexact Hl0
    isplitl [Hb0]; · iexact Hb0
    isplitl [Htd0]; · iexact Htd0
    iexact Htr0
  isplitl [Hl2 Hb2 Htd2 Htr2]
  · isplitl [Hl2]; · iexact Hl2
    isplitl [Hb2]; · iexact Hb2
    isplitl [Htd2]; · iexact Htd2
    iexact Htr2
  isplitl [Hl3 Hb3 Htd3 Htr3]
  · isplitl [Hl3]; · iexact Hl3
    isplitl [Hb3]; · iexact Hb3
    isplitl [Htd3]; · iexact Htd3
    iexact Htr3
  iintro ⟨HO, Hcs0, Hcs2, Hcs3⟩
  iapply (wp_part6 m c _)
  iapply (wp_part7 m K c _)
  isplitr; · iexact HR
  isplitl [HO]; · iexact HO
  isplitl [Hcr0 Har0]
  · isplitl [Hcr0]; · iexact Hcr0
    iexact Har0
  isplitl [Hcr2 Har2]
  · isplitl [Hcr2]; · iexact Hcr2
    iexact Har2
  iintro ⟨HO, Hzr0, Hzr2, Hg0, Hg2⟩
  iapply (wp_part8 m K c _)
  isplitr; · iexact HR
  isplitl [HO]; · iexact HO
  isplitl [Hcr3 Har3]
  · isplitl [Hcr3]; · iexact Hcr3
    iexact Har3
  isplitl [Hcr5 Har5]
  · isplitl [Hcr5]; · iexact Hcr5
    iexact Har5
  isplitl [Hg]; · iexact Hg
  isplitl [Hg0]; · iexact Hg0
  isplitl [Hg2]; · iexact Hg2
  iintro ⟨HO, Hzr3, Hzr5, Hg, Hg0, Hg2, Hg3, Hg5⟩
  iapply (wp_part9 m K c _ f3)
  isplitr; · iexact HR
  isplitl [HO]; · iexact HO
  isplitl [Hcr1 Har1]
  · isplitl [Hcr1]; · iexact Hcr1
    iexact Har1
  isplitl [Hcr4 Har4]
  · isplitl [Hcr4]; · iexact Hcr4
    iexact Har4
  isplitl [Hcr6 Har6]
  · isplitl [Hcr6]; · iexact Hcr6
    iexact Har6
  isplitl [Hg5]; · iexact Hg5
  isplitl [Hs3]; · iexact Hs3
  iintro ⟨HO, Hzr1, Hzr4, Hzr6, Hg5, Hg1, Hg4, Hg6, Hs3⟩
  iapply (wp_part10 m K c _ f3 fo)
  isplitr; · iexact HR
  isplitl [HO]; · iexact HO
  isplitl [Hs3]; · iexact Hs3
  isplitl [Ho]; · iexact Ho
  isplitl [Htc3]; · iexact Htc3
  isplitl [Hcs5 Has5]
  · isplitl [Hcs5]; · iexact Hcs5
    iexact Has5
  isplitl [Hcs1 Has1]
  · isplitl [Hcs1]; · iexact Hcs1
    iexact Has1
  isplitl [Hcs4 Has4]
  · isplitl [Hcs4]; · iexact Hcs4
    iexact Has4
  isplitl [Hcs6 Has6]
  · isplitl [Hcs6]; · iexact Hcs6
    iexact Has6
  iintro ⟨HO, Hcc3, Hzs5, Hzs1, Hzs4, Hzs6, Hl5, Hl1, Hl4, Hl6⟩
  iapply (step_sent m K c 0 _ rfl) $$ [HO Hcs0 Has0]
  · isplitr; · iexact HR
    isplitl [HO]; · iexact HO
    isplitl [Hcs0]; · iexact Hcs0
    iexact Has0
  iintro ⟨HO, Hzs0, Hl0⟩
  iapply (step_sent m K c 2 _ rfl) $$ [HO Hcs2 Has2]
  · isplitr; · iexact HR
    isplitl [HO]; · iexact HO
    isplitl [Hcs2]; · iexact Hcs2
    iexact Has2
  iintro ⟨HO, Hzs2, Hl2⟩
  iapply (step_sent m K c 3 _ rfl) $$ [HO Hcs3 Has3]
  · isplitr; · iexact HR
    isplitl [HO]; · iexact HO
    isplitl [Hcs3]; · iexact Hcs3
    iexact Has3
  iintro ⟨HO, Hzs3, Hl3⟩
  iapply (step_wait m K c (cJ 3) _ rfl (dst := oA) (src := oM) (amt_copy 3).symm (owesR c []) (mayWait_none c _)) $$ [HO Hcc3 Hac3]
  · isplitr; · iexact HR
    isplitl [Hcc3]; · iexact Hcc3
    isplitl [HO]; · iexact HO
    iexact Hac3
  iintro ⟨HO, Hzc3, Hp⟩
  ihave Hp := (Entails.of_eq (pay_out m c)) $$ Hp
  icases Hp with ⟨Ho, Hs3⟩
  iapply (wp_done (F := F) c)
  iapply Hk
  isplitl [HO]; · iexact HO
  isplitl [HzB]; · iexact HzB
  isplitl [Hzc0 Hzc1 Hzc2 Hzc3 Hzs0 Hzs1 Hzs2 Hzs3 Hzs4 Hzs5 Hzs6 Hzr0 Hzr1 Hzr2 Hzr3 Hzr4 Hzr5 Hzr6]
  · isplitl [Hzc0]; · iexact Hzc0
    isplitl [Hzc1]; · iexact Hzc1
    isplitl [Hzc2]; · iexact Hzc2
    isplitl [Hzc3]; · iexact Hzc3
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    iexact Hzr6
  isplitl [Hx Hi Hw]
  · isplitl [Hx]; · iexact Hx
    isplitl [Hi]; · iexact Hi
    iexact Hw
  isplitl [Ho]; · iexact Ho
  isplitl [Hs0]; · iexists _; iexact Hs0
  isplitl [Hs1]; · iexists _; iexact Hs1
  isplitl [Hs2]; · iexists _; iexact Hs2
  isplitl [Hs3]; · iexists _; iexact Hs3
  iexists (gF m)
  iapply (Entails.of_eq (gather_slots (F := F) c (gF m)).symm)
  isplitl [Hg Hl0 Hl1 Hl2 Hl3 Hl4 Hl5 Hl6]
  · iapply (Entails.of_eq (own_slot (F := F) c (gF m)).symm)
    isplitl [Hg]; · iexact Hg
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  iexact Hg6

end Cert.Exchange

end
-- ==== Proof.Launch.lean ====
/-
# 01_k — `Launch`: the run of the whole program

The rights of the protocol are dealt to the devices before the launch, the body runs on each, and what memory holds after
it is read off: the arguments as they were, the result, and every semaphore at zero.
-/
module

public import proofs.«01_k».proof.Proof.Body
public import proofs.«01_k».proof.Proof.Gen.KernelIdeal.Launch
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The launch's proof data: what a device holds before and after the body -/

/-- What device `c` holds before the body, apart from the launch's buffers. -/
def start (c : Dev nD) : sProp 𝕄 :=
  iprop((∃ K, records m K ∗ linear c) ∗ coming c ∗ args m c ∗ ∃ f, bufPt c main_v1 f)
/-- What it holds before the body. -/
def before (c : Dev nD) : sProp 𝕄 := iprop(start m c ∗ scratch c)
/-- What it holds after the body. -/
def after (c : Dev nD) : sProp 𝕄 :=
  iprop(semVal (barC c) 0 ∗ (bigSep Finset.univ fun j : Fin 18 => zeroOf c j) ∗ args m c ∗ bufPt c main_v1 (outF m c) ∗ scratch c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => after m c
  q _ := fullShare
  owed t := match t with
    | ⟨0, _⟩ => O₀ c
    | ⟨_ + 1, _⟩ => 0

/-- The one point of the launch, run on device `c`. -/
theorem body_obligation (c : Dev nD) : BodyObligation (dats m 0 c) (defs₀ (F := F)) 𝒱₀ () Set.univ := fun t => by
  rw [fin_N0 t]
  show iprop(before m c ∗ (dats m 0 c).owesAt () (t0_0 : Fin cfg0.N).castSucc ∗ bigSep (Finset.univ : Finset (Fin 0)) _)
    ⊢ WP c (bodyAt0 (F := F) t0_0) fun _ =>
      iprop(after m c ∗ (dats m 0 c).owesAt () (t0_0 : Fin cfg0.N).succ ∗ bigSep (Finset.univ : Finset (Fin 0)) _)
  rw [Finset.univ_eq_empty, bigSep_empty, bigSep_empty]
  unfold before start Dat.owesAt Pipeline.owesWithin
  iintro ⟨⟨⟨⟨%K, #HR, Hlin⟩, Hcm, Ha, Hv⟩, Hs⟩, ⟨%W, %hW, HO⟩, -⟩
  iapply (sound_body m K c _)
  isplitr []
  · isplitr; · iexact HR
    isplitl [HO]; · unfold owe; iexists W; iexact HO
    isplitl [Hlin]; · iexact Hlin
    isplitl [Hcm]; · iexact Hcm
    isplitl [Ha]; · iexact Ha
    isplitl [Hv]; · iexact Hv
    iexact Hs
  · unfold owe
    iintro ⟨⟨%W', HO⟩, Hrest⟩
    isplitl [Hrest]; · unfold after; iexact Hrest
    isplitl [HO]
    · iexists W'
      isplitr; · ipureintro; exact fun _ _ => Or.inl trivial
      iexact HO
    iempintro

/-! ## The rights, dealt at the launch -/

theorem ownSemFacts : Pipeline.OwnSemFacts cfg0.spec osem := by decide
theorem share_eq (c : Dev nD) (w : Fin cfg0.W) : (dats m 0 c).share w = fullShare := w.elim0

theorem kcell_injective : Function.Injective (kcell : Dev nD × CK → GSem nD τ sig) := by
  rintro ⟨c, k⟩ ⟨c', k'⟩ h
  have hc : c = c' := by
    have := congrArg (fun g : GSem nD τ sig => g.1.1) h
    rcases k with k | k <;> rcases k' with k' | k' <;> exact this
  subst hc
  have h2 := congrArg Prod.snd h
  rcases k with k | k <;> rcases k' with k' | k'
  · rfl
  · cases h2
  · cases h2
  · exact congrArg (fun j => (c, Sum.inr j)) (SemLoc.dma.inj h2)

/-- Every semaphore of the protocol. -/
def cellSet : Finset (GSem nD τ sig) := Finset.univ.map ⟨kcell, kcell_injective⟩

/-- The rights of a device's own semaphores: seven on its barrier, one on each transfer semaphore. -/
def tokOf (x : Dev nD × (Fin 7 ⊕ Fin 18)) : GSem nD τ sig × ℕ × Fin 7 := match x.2 with
  | .inl k => (barC x.1, 0, k)
  | .inr j => (dmaC x.1 j, 0, 0)
theorem tokOf_injective : Function.Injective tokOf := by
  rintro ⟨c, k⟩ ⟨c', k'⟩ h
  have hc : c = c' := by
    have := congrArg (fun x : GSem nD τ sig × ℕ × Fin 7 => x.1.1.1) h
    rcases k with k | k <;> rcases k' with k' | k' <;> exact this
  subst hc
  have h1 := congrArg (fun x : GSem nD τ sig × ℕ × Fin 7 => x.1.2) h
  have h2 := congrArg (fun x : GSem nD τ sig × ℕ × Fin 7 => x.2.2) h
  rcases k with k | k <;> rcases k' with k' | k'
  · exact congrArg (fun j => (c, Sum.inl j)) h2
  · cases h1
  · cases h1
  · exact congrArg (fun j => (c, Sum.inr j)) (SemLoc.dma.inj h1)
def tokSet : Finset (GSem nD τ sig × ℕ × Fin 7) := Finset.univ.map ⟨tokOf, tokOf_injective⟩

def u₀ : UU := (initOf (Pipeline.cells cfgs cellOf_inj) (Pipeline.launchToks cfgs cellOf_inj), initOf cellSet tokSet)

/-- The rights of device `c`'s own semaphores, held before they are handed to who uses them. -/
def toks (c : Dev nD) : sProp 𝕄 :=
  iprop((bigSep Finset.univ fun k : Fin 7 => dutyTok EX (barC c) 0 k) ∗ bigSep Finset.univ fun j : Fin 18 => dutyTok EX (dmaC c j) 0 0)
/-- What device `c` is dealt. -/
def G (c : Dev nD) : sProp 𝕄 :=
  iprop((bigSep Finset.univ fun k : CK => roundState EX (Rd m) (kcell (c, k)) 0)
    ∗ (bigSep Finset.univ fun k : CK => iprop(atPos EX (kcell (c, k)) 0 ∅ 0 ∗ reached EX (kcell (c, k)) 0)) ∗ toks c)
/-- What is known of the semaphores before the order of the waits is. -/
def known (K : Dev nD × CK → ℕ) : sProp 𝕄 :=
  iprop((bigSep Finset.univ fun ck : Dev nD × CK => cellInv EX (Rd m) (K ck) (kcell ck)) ∗ bigSep Finset.univ fun ck : Dev nD × CK => reached EX (kcell ck) 0)
instance known_persistent (K : Dev nD × CK → ℕ) : BI.Persistent (known m K) := by unfold known; infer_instance
/-- What device `c` holds once the rights are where they are used. -/
def G' (c : Dev nD) : sProp 𝕄 := iprop(∃ K, known m K ∗ linear c)

/-- A family over one device's semaphores is its barrier's member and the transfers'. -/
theorem bigSep_cells (Φ : CK → sProp 𝕄) : bigSep Finset.univ Φ = iprop(Φ (.inl ()) ∗ bigSep Finset.univ fun j : Fin 18 => Φ (.inr j)) := by
  rw [bigSep_univ_sum, Finset.univ_unique, bigSep_singleton]; rfl

theorem fund_cells : BI.own (EX (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok EX x.1 x.2.1 x.2.2 : sProp 𝕄)) = bigSep Finset.univ fun c : Dev nD => toks c := by
    unfold tokSet; rw [bigSep_map, bigSep_univ_prod]
    exact bigSep_congr fun c _ => by unfold toks; rw [bigSep_univ_sum]; rfl
  iintro HX
  imod (Rounds.fund EX (Rd m) cellSet tokSet) $$ HX with ⟨Hst, Hr, Hat, Htok⟩
  imodintro
  ihave Hst' := (Entails.of_eq (hX fun g => roundState EX (Rd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun j : Fin 18 => zeroOf c j := rfl
/-- The barrier is the one semaphore that outlives the launch. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- All of a device's counters, at zero. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_cells]
  iintro ⟨HD, HB⟩
  isplitl [HB]; · iexact HB
  iexact HD

/-- Each device's semaphores put under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (Rd m) κ (kcell (c, k))))
          ∗ (bigSep Finset.univ fun k => iprop(atPos EX (kcell (c, k)) 0 ∅ 0 ∗ reached EX (kcell (c, k)) 0)) ∗ toks c) := by
  have hopen : iprop((bigSep Finset.univ fun k : CK => semVal (kcell (c, k)) 0) ∗ bigSep Finset.univ fun k : CK => roundState EX (Rd m) (kcell (c, k)) 0)
      ⊢ (|={Set.univ}=> bigSep Finset.univ fun k => iprop(∃ κ : ℕ, cellInv EX (Rd m) κ (kcell (c, k))) : sProp 𝕄) := by
    rw [← bigSep_sep']
    exact (bigSep_mono fun k _ => (Rounds.body_intro EX (Rd m) (kcell (c, k))).trans inv_alloc).trans (bigSep_fupd _ _)
  unfold G
  iintro ⟨Hos, Hus, Hst, Hat, Htok⟩
  ihave Hv := (counters (F := F) c) $$ [Hos Hus]
  · isplitl [Hos] <;> iassumption
  imod hopen $$ [Hv Hst] with Hinv
  · isplitl [Hv] <;> iassumption
  imodintro
  isplitl [Hinv]; · iexact Hinv
  isplitl [Hat]; · iexact Hat
  iexact Htok

/-- A family over the transfer semaphores is the copies', the sendings' and the landings'. -/
theorem bigSep_kinds (Φ : Fin 18 → sProp 𝕄) : bigSep Finset.univ Φ
    ⊢ iprop((bigSep Finset.univ fun j : Fin 4 => Φ (cJ j)) ∗ (bigSep Finset.univ fun k : Fin 7 => Φ (sJ k)) ∗ bigSep Finset.univ fun k : Fin 7 => Φ (rJ k)) := by
  rw [bigSep_sems, bigSep_copies, bigSep_peers, bigSep_peers]
  iintro ⟨H0, H1, H2, H3, A0, A1, A2, A3, A4, A5, A6, HB⟩
  isplitl [H0 H1 H2 H3]
  · isplitl [H0]; · iexact H0
    isplitl [H1]; · iexact H1
    isplitl [H2] <;> iassumption
  isplitl [A0 A1 A2 A3 A4 A5 A6]
  · isplitl [A0]; · iexact A0
    isplitl [A1]; · iexact A1
    isplitl [A2]; · iexact A2
    isplitl [A3]; · iexact A3
    isplitl [A4]; · iexact A4
    isplitl [A5] <;> iassumption
  iexact HB

/-- Every device with its peers, seen from the peer. -/
def across : Dev nD × Fin 7 ≃ Dev nD × Fin 7 :=
  ⟨fun x => (px x.1 x.2, x.2), fun x => (px x.1 x.2, x.2), fun x => by simp only [px_px], fun x => by simp only [px_px]⟩

/-- A family over the devices and their peers, dealt to the peers. -/
theorem bigSep_across (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (px c k) k := by
  rw [← bigSep_univ_prod (fun x : Dev nD × Fin 7 => Φ x.1 x.2), ← bigSep_univ_prod (fun x : Dev nD × Fin 7 => Φ (px x.1 x.2) x.2)]
  exact bigSep_univ_equiv across _

/-- The rights handed to the devices that use them. -/
theorem toks_across : (bigSep Finset.univ fun c : Dev nD => (toks c : sProp 𝕄)) ⊢ bigSep Finset.univ fun c : Dev nD => payToks c := by
  have h : (bigSep Finset.univ fun c : Dev nD => (toks c : sProp 𝕄)) ⊢ bigSep Finset.univ fun c : Dev nD =>
      iprop((bigSep Finset.univ fun k : Fin 7 => dutyTok EX (barC c) 0 k) ∗ (bigSep Finset.univ fun j : Fin 4 => dutyTok EX (dmaC c (cJ j)) 0 0)
        ∗ (bigSep Finset.univ fun k : Fin 7 => dutyTok EX (dmaC c (sJ k)) 0 0) ∗ bigSep Finset.univ fun k : Fin 7 => dutyTok EX (dmaC c (rJ k)) 0 0) :=
    bigSep_mono fun c _ => sep_mono_right (bigSep_kinds fun j => dutyTok EX (dmaC c j) 0 0)
  refine h.trans (Entails.of_eq ?_)
  unfold payToks
  rw [bigSep_sep', bigSep_sep', bigSep_sep', bigSep_sep', bigSep_sep', bigSep_sep',
    bigSep_across fun c k => dutyTok EX (barC c) 0 k, bigSep_across fun c k => dutyTok EX (dmaC c (rJ k)) 0 0]

/-- What is known for good goes to every member of a family. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (Rd m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × CK => iprop(∃ κ : ℕ, cellInv EX (Rd m) κ (kcell ck))),
    bigSep_congr (s := Finset.univ) (fun (c : Dev nD) _ => bigSep_sep' Finset.univ (fun k : CK => (atPos EX (kcell (c, k)) 0 ∅ 0 : sProp 𝕄)) (fun k => reached EX (kcell (c, k)) 0)),
    bigSep_sep', ← bigSep_univ_prod (fun ck : Dev nD × CK => (reached EX (kcell ck) 0 : sProp 𝕄))]
  iintro ⟨HI, ⟨Hat, #HR⟩, Htok⟩
  ihave HK := (BI.bigSep_exists_pi Finset.univ (fun (ck : Dev nD × CK) (κ : ℕ) => (cellInv EX (Rd m) κ (kcell ck) : sProp 𝕄))) $$ HI
  icases HK with ⟨%K, #HI⟩
  ihave Htk := (toks_across (F := F)) $$ Htok
  have hintro : ∀ c ∈ (Finset.univ : Finset (Dev nD)), iprop(known m K ∗ linear c) ⊢ G' m c := fun c _ => by
    unfold G'; iintro H; iexists K; iexact H
  iapply (bigSep_knowing (R := known m K) hintro)
  isplitr
  · unfold known; isplitl; · iexact HI
    iexact HR
  · iapply ((Entails.of_eq (bigSep_sep' Finset.univ (fun c : Dev nD => bigSep Finset.univ fun k : CK => (atPos EX (kcell (c, k)) 0 ∅ 0 : sProp 𝕄)) payToks).symm).trans
      (bigSep_mono fun c _ => show _ ⊢ linear c from Entails.of_eq (by unfold linear; rw [bigSep_cells]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit that is coming to each device -/

theorem bar_eq_iff {a b : Dev nD} : Iff (barC a = barC b) (a = b) :=
  ⟨fun h => Fin.ext (congrArg (fun g : GSem nD τ sig => g.1.1.val) h), fun h => h ▸ rfl⟩
theorem recv_eq_iff {a b : Dev nD} {k l : Fin 7} : Iff (dmaC a (rJ k) = dmaC b (rJ l)) (a = b ∧ k = l) :=
  ⟨fun h => ⟨Fin.ext (congrArg (fun g : GSem nD τ sig => g.1.1.val) h),
    by have := congrArg Fin.val (SemLoc.dma.inj (congrArg Prod.snd h)); simp only [rJ] at this; exact Fin.ext (by omega)⟩, fun h => by rw [h.1, h.2]⟩
theorem eq_px_iff {c d : Dev nD} {k : Fin 7} : Iff (c = px d k) (d = px c k) :=
  ⟨fun h => by rw [h, px_px], fun h => by rw [h, px_px]⟩

theorem owesR_bar (d c : Dev nD) : ∀ l : List (Fin 7), owesR d l (barC c) () = 0
  | [] => rfl
  | k :: l => by
    unfold owesR
    rw [Pi.add_apply, Finsupp.add_apply, owesR_bar d c l, tallyAt_ne_cell (fun h => by cases congrArg Prod.snd h), Finsupp.zero_apply]; rfl
/-- A device owes a barrier one unit for each signal it still sends there. -/
theorem owesB_bar (d c : Dev nD) : ∀ l : List (Fin 7), owesB d l (barC c) () = (l.map fun k => if d = px c k then 1 else 0).sum
  | [] => owesR_bar d c _
  | k :: l => by
    unfold owesB
    rw [Pi.add_apply, Finsupp.add_apply, owesB_bar d c l, tallyAt_apply, List.map_cons, List.sum_cons, Nat.add_comm]
    congr 1
    by_cases h : d = px c k
    · rw [if_pos ⟨bar_eq_iff.mpr (eq_px_iff.mpr h), rfl⟩, if_pos h]
    · rw [if_neg (fun h' => h (eq_px_iff.mp (bar_eq_iff.mp h'.1))), if_neg h]
/-- A device owes a landing one block for each sending that it still makes there. -/
theorem owesR_recv (d c : Dev nD) (k : Fin 7) : ∀ l : List (Fin 7),
    owesR d l (dmaC c (rJ k)) () = if d = px c k then l.count k * blockN else 0
  | [] => by rw [List.count_nil, Nat.zero_mul, ite_self]; rfl
  | i :: l => by
    unfold owesR
    rw [Pi.add_apply, Finsupp.add_apply, owesR_recv d c k l, tallyAt_apply, List.count_cons]
    by_cases h : d = px c k
    · rw [if_pos h, if_pos h]
      by_cases hi : i = k
      · subst hi
        rw [if_pos ⟨recv_eq_iff.mpr ⟨eq_px_iff.mpr h, rfl⟩, rfl⟩, if_pos (beq_self_eq_true i), Nat.add_mul, Nat.one_mul]
      · rw [if_neg (fun h' => hi (recv_eq_iff.mp h'.1).2.symm), if_neg (fun h' => hi (beq_iff_eq.mp h')), Nat.add_zero, Nat.add_zero]
    · rw [if_neg h, if_neg h, if_neg]
      rintro ⟨h1, -⟩
      obtain ⟨h2, rfl⟩ := recv_eq_iff.mp h1
      exact h (eq_px_iff.mp h2)
theorem owesB_recv (d c : Dev nD) (k : Fin 7) : ∀ l : List (Fin 7), owesB d l (dmaC c (rJ k)) () = landings d (dmaC c (rJ k)) ()
  | [] => rfl
  | i :: l => by
    unfold owesB
    rw [Pi.add_apply, Finsupp.add_apply, owesB_recv d c k l, tallyAt_ne_cell (fun h => by cases congrArg Prod.snd h), Finsupp.zero_apply, Nat.add_zero]

theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => show O₀ d (barC c) () = _ from owesB_bar d c _]
  simp only [List.map_cons, List.map_nil, List.sum_cons, List.sum_nil, Finset.sum_add_distrib, Finset.sum_ite_eq', Finset.mem_univ, if_true, Finset.sum_const_zero]
  rfl
theorem launch_recv (c : Dev nD) (k : Fin 7) :
    tallyOn (dmaC c (rJ k)) (launchCredit (Pipeline.owing O₀) 0 (dmaC c (rJ k))) = (tallyAt (dmaC c (rJ k)) () (amt (rJ k)) : CellTallies nD τ sig Unit) := by
  have hk : ([5, 1, 4, 6, 0, 2, 3] : List (Fin 7)).count k = 1 := by revert k; decide
  unfold tallyAt; refine congrArg _ (Finsupp.ext fun u => ?_); cases u
  rw [Pipeline.launchCredit_owing, Finsupp.single_eq_same, Finset.sum_congr rfl fun d _ => show O₀ d (dmaC c (rJ k)) () = _ from (owesB_recv d c k _).trans (owesR_recv d c k _), hk, Nat.one_mul,
    Finset.sum_ite_eq' Finset.univ (px c k) fun _ => blockN, if_pos (Finset.mem_univ _), amt_recv]

/-- The credits of the landings, out of all the launch credit but the barrier's. -/
def recvLocs : Finset (SemLoc sig) := Finset.univ.map ⟨fun k : Fin 7 => osem (rJ k), by decide⟩

theorem creds (c : Dev nD) : (Pipeline.launchCred O₀ c : sProp 𝕄) ⊢ coming c := by
  unfold Pipeline.launchCred coming
  rw [bigSep_univ_at _ (SemLoc.reg barS), launch_bar]
  have h : (bigSep recvLocs fun sm => cred (tallyOn ((c : Thread nD τ), sm) (launchCredit (Pipeline.owing O₀) 0 ((c : Thread nD τ), sm))) : sProp 𝕄)
      = bigSep Finset.univ fun k : Fin 7 => credOf c (rJ k) := by
    unfold recvLocs
    rw [bigSep_map]
    exact bigSep_congr fun k _ => congrArg cred (launch_recv c k)
  rw [← h]
  exact sep_mono_right (bigSep_subset (by decide))

/-! ## Before and after the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ bufPt c main_arg1 (m ((c : Thread nD τ).loc main_arg1))) := by
  rw [Pipeline.unscopedRestP_none, unscopedRest0_eq]
  unfold G' known
  iintro ⟨⟨H0, H1, H2, H3, Hv⟩, #Hlev, Hcr, -, ⟨%K, ⟨#HI, #HR⟩, Hlin⟩⟩
  ihave Hc := (creds (F := F) c) $$ Hcr
  imodintro
  unfold start args records
  isplitl [H0 H2 H3 Hv Hlin Hc]
  · isplitl [Hlin]
    · iexists K
      isplitr
      · isplitr; · iexact HI
        isplitr; · iexact HR
        iexact Hlev
      iexact Hlin
    isplitl [Hc]; · iexact Hc
    isplitl [H0 H2 H3]
    · isplitl [H0]; · iexact H0
      isplitl [H2]; · iexact H2
      iexact H3
    iexists _; iexact Hv
  iexact H1

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-- What leaves the launch. -/
def left (c : Dev nD) : sProp 𝕄 := iprop(unscopedSems0 c ∗ args m c ∗ bufPt c main_v1 (outF m c))

theorem after_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = after m c from rfl, scopedRest0_eq, ownSems0_eq]
  unfold after left scratch
  rw [unscopedSems0_eq]
  iintro ⟨HB, HD, Ha, Ho, Hs⟩
  isplitl [HB Ha Ho]
  · isplitl [HB]; · iexact HB
    isplitl [Ha] <;> iassumption
  isplitl [HD] <;> iassumption

theorem waits (c : Dev nD) : (levAts L lv : sProp 𝕄) ⊢ Pipeline.cellsWaits cfgs (dats m) () 0 c :=
  Pipeline.cellsWaits_intro cfgs (dats m) () 0 c fun w => w.elim0

/-- What memory holds of device `c` after the run. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = outF m c

theorem read_final (c : Dev nD) (s' : Phys nD τ sig (Elt F)) :
    iprop(left m c ∗ bufPt c main_arg1 (m ((c : Thread nD τ).loc main_arg1)) ∗ SI s')
      ⊢ |={Set.univ}=> iprop(⌜Final m c s'.mem ∧ ∀ sm : SemLoc sig, sm.isScoped .tc = false → s'.mem.sem ((c.tc : Thread nD τ), sm) = 0⌝ ∗ SI s') := by
  unfold left args bufPt
  iintro ⟨⟨Hu, ⟨H0, H2, H3⟩, Ho⟩, H1, HSI⟩
  icombine HSI H0 gives %h0
  icombine HSI H1 gives %h1
  icombine HSI H2 gives %h2
  icombine HSI H3 gives %h3
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1, Buf.eq_of_forall_mem_univ h2, Buf.eq_of_forall_mem_univ h3, Buf.eq_of_forall_mem_univ ho⟩, hs⟩
  iexact HSI

/-! ## The run -/

set_option maxRecDepth 8000 in
/-- For any float values, from any memory with zero counters: the program ends, with the arguments as they were, each
    device's result the sum its body stores, and every semaphore at zero. -/
theorem run_main : θ_run defs (onTc (τ := τ) (main (F := F))) (s₀ m ρ) (fun r => (∀ c : Dev nD, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := left m) (Z := fun c => bufPt c main_arg1 (m ((c : Thread nD τ).loc main_arg1)))
    (hX := start_intro m ρ) (hin := before_intro m) (hout := after_exit m)
    (QY := fun c s => Final m c s ∧ ∀ sm : SemLoc sig, sm.isScoped .tc = false → s.sem ((c.tc : Thread nD τ), sm) = 0)
    (hY := read_final m)
    (hQ := fun _ h hs => ⟨fun c => (h c).2.2.1, sem_eq_zero hs fun c => (h c).2.2.2⟩)

end Cert.Exchange

end
-- ==== Proof.Frames.lean ====
/-
# 01_k — `Frames`: the frames

Both kernels' frames are read off the one run; the reference's off its own run, which uses no semaphore.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Launch

@[expose] public section

noncomputable section

namespace Cert.Exchange

open Idealize.ShloMosaic Idealize.SL.Sem

/-- The printed kernel leaves its arguments as they were and every counter at zero. -/
theorem frame_kernel : Cert.quiescent_Kernel (hKernel := Cert.Kernel.Gen.facts) := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Bits) m ρ)

/-- So does the idealized kernel. -/
theorem frame_ideal : Cert.quiescent_KernelIdeal (hKernelIdeal := Cert.KernelIdeal.Gen.facts) := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- So does the idealized kernel on inputs of which the precondition holds. -/
theorem frame_ideal_pre : Cert.quiescent_KernelIdeal_pre_routed_KernelIdeal (hKernelIdeal := Cert.KernelIdeal.Gen.facts)
    (hPre_routed_KernelIdeal := Cert.Pre_routed_KernelIdeal.Gen.facts) := fun m ρ _ => frame_ideal m ρ True.intro

/-- So does the reference. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- So does the reference on inputs of which the precondition holds. -/
theorem frame_reference_pre : Cert.quiescent_ReferenceIdeal_pre_routed_ReferenceIdeal
    (hReferenceIdeal := Cert.ReferenceIdeal.Gen.facts) (hPre_routed_ReferenceIdeal := Cert.Pre_routed_ReferenceIdeal.Gen.facts) :=
  fun m ρ _ => frame_reference m ρ True.intro

end Cert.Exchange

end
-- ==== Proof.Count.lean ====
/-
# 01_k — `Count`: which row each token is given

Each token asks for one of sixteen experts. Its rank is its place among the tokens up to it that ask for the same
expert, from one; a token of rank at most 25 is kept, and takes row `25 * expert + rank - 1` among 400.
-/
module

public import Idealize.ShloMosaic.Lib.Pointwise

@[expose] public section

noncomputable section

namespace Cert.Exchange

variable (e : Fin 512 → Fin 16)

/-- How many tokens up to `i`, itself among them, ask for the expert `i` asks for. -/
def rank (i : Fin 512) : ℕ := (Finset.univ.filter fun j : Fin 512 => j ≤ i ∧ e j = e i).card

/-- How many tokens before `i` ask for the expert `i` asks for. -/
def ahead (i : Fin 512) : ℕ := (Finset.univ.filter fun j : Fin 512 => j < i ∧ e j = e i).card

/-- The row a kept token takes. -/
def slot (i : Fin 512) : ℕ := 25 * (e i).val + (rank e i - 1)

/-- The token itself is the only one counted in its rank that is not before it. -/
theorem rank_eq (i : Fin 512) : rank e i = ahead e i + 1 := by
  have h : (Finset.univ.filter fun j : Fin 512 => j ≤ i ∧ e j = e i)
      = insert i (Finset.univ.filter fun j : Fin 512 => j < i ∧ e j = e i) := by
    ext j
    simp only [Finset.mem_filter, Finset.mem_univ, true_and, Finset.mem_insert]
    constructor
    · rintro ⟨h1, h2⟩
      rcases eq_or_lt_of_le h1 with h | h
      · exact .inl h
      · exact .inr ⟨h, h2⟩
    · rintro (rfl | ⟨h1, h2⟩)
      · exact ⟨le_rfl, rfl⟩
      · exact ⟨h1.le, h2⟩
  rw [rank, h, Finset.card_insert_of_notMem (by simp), ahead]

/-- A rank is at least one. -/
theorem rank_pos (i : Fin 512) : 1 ≤ rank e i := by rw [rank_eq]; omega

/-- A rank is at most the number of tokens. -/
theorem rank_le (i : Fin 512) : rank e i ≤ 512 := by
  simpa [rank] using Finset.card_le_univ (Finset.univ.filter fun j : Fin 512 => j ≤ i ∧ e j = e i)

/-- Ranks grow along the tokens of one expert. -/
theorem rank_lt {i j : Fin 512} (h : i < j) (he : e i = e j) : rank e i < rank e j := by
  refine Finset.card_lt_card ⟨fun k hk => ?_, fun hs => ?_⟩
  · have hk' := (Finset.mem_filter.mp hk).2
    exact Finset.mem_filter.mpr ⟨Finset.mem_univ _, hk'.1.trans h.le, hk'.2.trans he⟩
  · have hj := (Finset.mem_filter.mp (hs (Finset.mem_filter.mpr ⟨Finset.mem_univ j, le_rfl, rfl⟩))).2.1
    exact absurd h (not_lt.mpr hj)

/-- A kept token's row is one of the 400. -/
theorem slot_lt {i : Fin 512} (h : rank e i ≤ 25) : slot e i < 400 := by
  have := (e i).isLt
  unfold slot; omega

/-- A kept token's row lies in its expert's 25. -/
theorem slot_div {i : Fin 512} (h : rank e i ≤ 25) : slot e i / 25 = (e i).val := by
  have := rank_pos e i
  unfold slot; omega

/-- No two kept tokens take one row. -/
theorem slot_inj {i j : Fin 512} (hi : rank e i ≤ 25) (hj : rank e j ≤ 25) (h : slot e i = slot e j) : i = j := by
  have he : e i = e j := Fin.ext (by rw [← slot_div e hi, ← slot_div e hj, h])
  have hr : rank e i = rank e j := by
    have := rank_pos e i; have := rank_pos e j
    have hv := congrArg Fin.val he
    unfold slot at h; omega
  rcases lt_trichotomy i j with hlt | heq | hlt
  · exact absurd hr (rank_lt e hlt he).ne
  · exact heq
  · exact absurd hr (rank_lt e hlt he.symm).ne'

/-- Token `i` is kept and its row is row `j` of block `p`. -/
def Hit (i : Fin 512) (p j : ℕ) : Prop := rank e i ≤ 25 ∧ slot e i = 50 * p + j

instance (i : Fin 512) (p j : ℕ) : Decidable (Hit e i p j) := inferInstanceAs (Decidable (_ ∧ _))

/-- Picking the tokens of row `j` of block `p` picks token `i` when it has that row. -/
theorem sum_hit {i : Fin 512} {p j : ℕ} (h : Hit e i p j) (x : Fin 512 → EReal) :
    ∑ t : Fin 512, (if Hit e t p j then (1 : EReal) else 0) * x t = x i := by
  rw [Finset.sum_eq_single i]
  · rw [if_pos h, one_mul]
  · intro t _ ht
    rw [if_neg fun h' => ht (slot_inj e h'.1 h.1 (h'.2.trans h.2.symm)), zero_mul]
  · intro h'; exact absurd (Finset.mem_univ i) h'

/-- Token `i`'s row is in block `p` at most once. -/
theorem sum_rows (i : Fin 512) (p : ℕ) (V : EReal) :
    ∑ j : Fin 50, (if Hit e i p j.val then (1 : EReal) else 0) * V = if rank e i ≤ 25 ∧ slot e i / 50 = p then V else 0 := by
  by_cases h : rank e i ≤ 25 ∧ slot e i / 50 = p
  · rw [if_pos h, Finset.sum_eq_single ⟨slot e i % 50, Nat.mod_lt _ (by decide)⟩]
    · rw [if_pos ⟨h.1, show slot e i = 50 * p + slot e i % 50 by omega⟩, one_mul]
    · intro j _ hj
      rw [if_neg fun h' => hj (Fin.ext (show j.val = slot e i % 50 by have := h'.2; have := j.isLt; omega)), zero_mul]
    · intro h'; exact absurd (Finset.mem_univ _) h'
  · rw [if_neg h]
    refine Finset.sum_eq_zero fun j _ => ?_
    rw [if_neg fun h' => h ⟨h'.1, by have := h'.2; have := j.isLt; omega⟩, zero_mul]

/-- The kernel's count of a token's rank: over the experts, the tokens up to `i` that ask for it, where `i` does. -/
theorem sum_rank (i : Fin 512) :
    ∑ x : Fin 16, (∑ j : Fin 512, (if j ≤ i then (1 : EReal) else 0) * (if e j = x then (1 : EReal) else 0))
        * (if e i = x then (1 : EReal) else 0) = ((rank e i : ℝ) : EReal) := by
  rw [Finset.sum_eq_single (e i)]
  · rw [if_pos rfl, mul_one]
    have h : ∀ j : Fin 512, (if j ≤ i then (1 : EReal) else 0) * (if e j = e i then (1 : EReal) else 0)
        = (((if j ≤ i ∧ e j = e i then 1 else 0 : ℕ) : ℝ) : EReal) := by
      intro j
      by_cases h1 : j ≤ i <;> by_cases h2 : e j = e i <;> simp [h1, h2]
    have hc : ∀ (s : Finset (Fin 512)) (f : Fin 512 → ℕ),
        ∑ j ∈ s, (((f j : ℕ) : ℝ) : EReal) = (((∑ j ∈ s, f j : ℕ) : ℝ) : EReal) := by
      intro s f
      induction s using Finset.induction_on with
      | empty => simp
      | insert a s ha ih => rw [Finset.sum_insert ha, Finset.sum_insert ha, ih, Nat.cast_add, EReal.coe_add]
    rw [Finset.sum_congr rfl fun j _ => h j, hc, rank, Finset.card_filter]
  · intro x _ hx
    rw [if_neg (fun h => hx h.symm), mul_zero]
  · intro h'; exact absurd (Finset.mem_univ _) h'

end Cert.Exchange

end
-- ==== Proof.Rank.lean ====
/-
# 01_k — `Rank`: the row each token is given, as the kernel's words

Over the extended reals the kernel's count is exact: the words it computes are `Count`'s ranks and rows.
-/
module

public import proofs.«01_k».proof.Proof.Gen.KernelIdeal.Skeleton
public import proofs.«01_k».proof.Proof.Count
public import Idealize.ShloMosaic.Lib.StableHlo.Predicate

@[expose] public section

noncomputable section

namespace Cert.Exchange

open Cert.KernelIdeal Cert.KernelIdeal.Gen
open Idealize.ShloMosaic

/-- A widened bit, as an extended real. -/
theorem sitofp_bit (φ : FTy) (b : BitVec 1) (p : Prop) [Decidable p] (h : b = 1#1 ↔ p) :
    (FloatOps.sitofp φ (b.setWidth 32) : Ideal φ) = if p then (1 : EReal) else 0 := by
  show (((b.setWidth 32).toInt : ℝ) : EReal) = _
  by_cases hb : b = 1#1
  · rw [if_pos (h.mp hb), hb]; norm_num
  · rw [if_neg fun hp => hb (h.mpr hp), ValueIdx.eq_zero_of_ne_one hb]; norm_num

/-- A natural number converts to its own word. -/
theorem fptosi_nat (n : ℕ) (h : n < 2 ^ 31) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) by
      rw [min_eq_right (by norm_num; omega), max_eq_right (by norm_num)]]
  exact BitVec.ofInt_natCast 32 n

/-- Words of small numbers are ordered as the numbers. -/
theorem sle_word (a b : ℕ) (ha : a < 2 ^ 31) (hb : b < 2 ^ 31) :
    IntOp.cmpi .sle (BitVec.ofNat 32 a) (BitVec.ofNat 32 b) = 1#1 ↔ a ≤ b := by
  rw [StableHlo.Predicate.sle_iff_toNat (by simp; omega) (by simp; omega)]
  simp only [BitVec.toNat_ofNat]
  rw [Nat.mod_eq_of_lt (by omega), Nat.mod_eq_of_lt (by omega)]

/-- Words of small numbers are equal as the numbers. -/
theorem eq_word (a b : ℕ) (ha : a < 2 ^ 31) (hb : b < 2 ^ 31) :
    IntOp.cmpi .eq (BitVec.ofNat 32 a) (BitVec.ofNat 32 b) = 1#1 ↔ a = b := by
  rw [StableHlo.Predicate.cmpi_eq_iff]
  constructor
  · intro h
    have := congrArg BitVec.toNat h
    simp only [BitVec.toNat_ofNat] at this
    omega
  · rintro rfl; rfl

variable (e : Fin 512 → Fin 16) (E : IVec S512x1 32)

/-- The word the kernel computes for token `i`: its row when it is kept, all ones otherwise. -/
theorem place_eq (hE : ∀ j, E (ix2 j 0) = BitVec.ofNat 32 (e j).val) (i : Fin 512) :
    k0_pay1 (F := Ideal) E (ix2 i 0) = if rank e i ≤ 25 then BitVec.ofNat 32 (slot e i) else 4294967295#32 := by
  pointwise [k0_pay1]
  have h1 : ∀ j : Fin 512, (FloatOps.sitofp FTy.f32 (BitVec.setWidth 32 (IntOp.cmpi .sle (BitVec.ofNat 32 j.val) (BitVec.ofNat 32 i.val))) : Ideal .f32)
      = if j ≤ i then (1 : EReal) else 0 := fun j =>
    sitofp_bit _ _ _ ((sle_word j.val i.val (by omega) (by omega)).trans Fin.le_def.symm)
  have h2 : ∀ (j : Fin 512) (x : Fin 16), (FloatOps.sitofp FTy.f32 (BitVec.setWidth 32 (IntOp.cmpi .eq (E (ix2 j 0)) (BitVec.ofNat 32 x.val))) : Ideal .f32)
      = if e j = x then (1 : EReal) else 0 := fun j x => by
    rw [hE j]
    exact sitofp_bit _ _ _ ((eq_word _ _ (by omega) (by omega)).trans Fin.ext_iff.symm)
  simp only [h1, h2, sum_rank e i]
  have hr := rank_le e i
  rw [fptosi_nat _ (by omega), hE i]
  by_cases hk : rank e i ≤ 25
  · rw [if_pos hk, (sle_word (rank e i) 25 (by omega) (by omega)).mpr hk]
    have hp := rank_pos e i
    have he := (e i).isLt
    show BitVec.ofNat 32 (e i).val * 25#32 + BitVec.ofNat 32 (rank e i) - 1#32 = BitVec.ofNat 32 (slot e i)
    apply BitVec.eq_of_toNat_eq
    unfold slot
    simp only [BitVec.toNat_sub, BitVec.toNat_add, BitVec.toNat_mul, BitVec.toNat_ofNat]
    omega
  · rw [if_neg hk, ValueIdx.eq_zero_of_ne_one (fun h => hk ((sle_word (rank e i) 25 (by omega) (by omega)).mp h))]
    rfl

/-- The row looked for, as a difference of words. -/
theorem subi_muli (x y z : BitVec 32) : IntOp.subi x (Scalar.muli y z) = x - y * z := rfl

/-- A word is a difference exactly when adding back gives the first word. -/
theorem eq_sub_word (x y z : BitVec 32) : z = x - y ↔ x = z + y :=
  ⟨fun h => by rw [h, BitVec.sub_add_cancel], fun h => by rw [h, BitVec.add_sub_cancel]⟩

/-- A small word is a row number less a block's first row only for the row's own number. -/
theorem word_row (s p j : ℕ) (hs : s < 400) (hp : p < 8) (hj : j < 50) :
    BitVec.ofNat 32 j = BitVec.ofNat 32 s - BitVec.ofNat 32 p * 50#32 ↔ s = 50 * p + j := by
  rw [eq_sub_word, show BitVec.ofNat 32 j + BitVec.ofNat 32 p * 50#32 = BitVec.ofNat 32 (j + p * 50) by
    rw [BitVec.ofNat_add, BitVec.ofNat_mul]]
  constructor
  · intro h
    have := congrArg BitVec.toNat h
    rw [BitVec.toNat_ofNat, BitVec.toNat_ofNat, Nat.mod_eq_of_lt (by omega), Nat.mod_eq_of_lt (by omega)] at this
    omega
  · rintro rfl
    congr 1; omega

/-- The word of all ones is no row number. -/
theorem word_none (p j : ℕ) (hp : p < 8) (hj : j < 50) : BitVec.ofNat 32 j ≠ 4294967295#32 - BitVec.ofNat 32 p * 50#32 := by
  rw [ne_eq, eq_sub_word, show BitVec.ofNat 32 j + BitVec.ofNat 32 p * 50#32 = BitVec.ofNat 32 (j + p * 50) by
    rw [BitVec.ofNat_add, BitVec.ofNat_mul]]
  intro h
  have := congrArg BitVec.toNat h
  rw [BitVec.toNat_ofNat, BitVec.toNat_ofNat, Nat.mod_eq_of_lt (by omega), Nat.mod_eq_of_lt (by omega)] at this
  omega

/-- Column `j` of block `p`'s mask is set at token `i` exactly when the token's row is row `j` of block `p`. -/
theorem hit_word (hE : ∀ j, E (ix2 j 0) = BitVec.ofNat 32 (e j).val) (i : Fin 512) (p j : ℕ) (hp : p < 8) (hj : j < 50) :
    IntOp.cmpi .eq (BitVec.ofNat 32 j) (IntOp.subi (k0_pay1 (F := Ideal) E (ix2 i 0)) (Scalar.muli (BitVec.ofNat 32 p) 50#32)) = 1#1
      ↔ Hit e i p j := by
  rw [StableHlo.Predicate.cmpi_eq_iff, place_eq e E hE i, subi_muli]
  unfold Hit
  by_cases hk : rank e i ≤ 25
  · rw [if_pos hk, word_row _ p j (slot_lt e hk) hp hj]
    exact ⟨fun h => ⟨hk, h⟩, fun h => h.2⟩
  · rw [if_neg hk]
    exact ⟨fun h => absurd h (word_none p j hp hj), fun h => absurd h.1 hk⟩

end Cert.Exchange

end
-- ==== Proof.Rows.lean ====
/-
# 01_k — `Rows`: what one device's block of rows holds

Over the extended reals, row `j` of device `p`'s block holds the product of the token that has that row with the
token's expert.
-/
module

public import proofs.«01_k».proof.Proof.Contents
public import proofs.«01_k».proof.Proof.Rank
public import Idealize.ShloMosaic.Lib.Layout

@[expose] public section

noncomputable section

namespace Cert.Exchange

open Cert.KernelIdeal Cert.KernelIdeal.Gen
open Idealize.ShloMosaic Idealize.ShloMosaic.TcCoe

/-- A device's number is its own word. -/
theorem vw_eq (c : Dev nD) : vw c = BitVec.ofNat 32 c.val := by revert c; decide

variable (e : Fin 512 → Fin 16) (E : IVec S512x1 32)
variable (X : FVec Ideal S512x256 .f32) (w0 w1 : FVec Ideal S1x256x512 .f32)

/-- One of the first 25 rows: the token that has it, times the first expert. -/
theorem row_first (hE : ∀ j, E (ix2 j 0) = BitVec.ofNat 32 (e j).val) (p : ℕ) (hp : p < 8) (j : Fin 25) (k i : Fin 512)
    (h : Hit e i p j.val) :
    k0_pay3 (F := Ideal) (k0_pay2 (F := Ideal) (BitVec.ofNat 32 p) E) X w0 w1 (ix3 0 ⟨j.val, by omega⟩ k)
      = ∑ d : Fin 256, X (ix2 i d) * w0 (ix3 0 d k) := by
  pointwise [k0_pay3, k0_pay2]
  refine Finset.sum_congr rfl fun d _ => congrArg (· * _) ?_
  rw [← sum_hit e h fun t => X (ix2 t d)]
  exact Finset.sum_congr rfl fun t _ => congrArg (· * _) (sitofp_bit _ _ _ (hit_word e E hE t p j.val hp (by omega)))

/-- One of the last 25 rows: the token that has it, times the second expert. -/
theorem row_second (hE : ∀ j, E (ix2 j 0) = BitVec.ofNat 32 (e j).val) (p : ℕ) (hp : p < 8) (j : Fin 25) (k i : Fin 512)
    (h : Hit e i p (25 + j.val)) :
    k0_pay3 (F := Ideal) (k0_pay2 (F := Ideal) (BitVec.ofNat 32 p) E) X w0 w1 (ix3 0 ⟨25 + j.val, by omega⟩ k)
      = ∑ d : Fin 256, X (ix2 i d) * w1 (ix3 0 d k) := by
  pointwise [k0_pay3, k0_pay2]
  refine Finset.sum_congr rfl fun d _ => congrArg (· * _) ?_
  rw [← sum_hit e h fun t => X (ix2 t d)]
  exact Finset.sum_congr rfl fun t _ => congrArg (· * _) (sitofp_bit _ _ _ (hit_word e E hE t p (25 + j.val) hp (by omega)))

variable (m : (ℓ : Loc nD τ sig) → Buf (Elt Ideal) ℓ)

/-- The first expert is the first of the device's two. -/
theorem w0F_apply (c : Dev nD) (d : Fin 256) (k : Fin 512) : w0F m c (ix3 0 d k) = wF m c (ix3 0 d k) := by
  show wF m c ((Rect.unit (s := S2x256x512) ![0, 0, 0] S1x256x512.size inb_S2x256x512_S1x256x512_0_0_0).emb (ix3 0 d k)) = _
  congr 1
  funext a
  fin_cases a
  · exact Fin.ext (show 0 + 1 * 0 = 0 by omega)
  · exact Fin.ext (show 0 + 1 * d.val = d.val by omega)
  · exact Fin.ext (show 0 + 1 * k.val = k.val by omega)

/-- The second expert is the second of the device's two. -/
theorem w1F_apply (c : Dev nD) (d : Fin 256) (k : Fin 512) : w1F m c (ix3 0 d k) = wF m c (ix3 1 d k) := by
  show wF m c ((Rect.unit (s := S2x256x512) ![1, 0, 0] S1x256x512.size inb_S2x256x512_S1x256x512_1_0_0).emb (ix3 0 d k)) = _
  congr 1
  funext a
  fin_cases a
  · exact Fin.ext (show 1 + 1 * 0 = 1 by omega)
  · exact Fin.ext (show 0 + 1 * d.val = d.val by omega)
  · exact Fin.ext (show 0 + 1 * k.val = k.val by omega)

/-- The experts whole. -/
abbrev S16 : Shape := ⟨3, ![16, 256, 512]⟩

/-- Device `c`'s expert `q` is expert `2 * c + q` of the sixteen. -/
theorem block_apply (W : S16.Idx → Ideal .f32) (c : Fin 8) (q : Fin 2) (d : Fin 256) (k : Fin 512) :
    (Layout.block (⟨3, ![2, 256, 512]⟩ : Shape) S16 0 8 c W) (ix3 q d k) = W (ix3 ⟨2 * c.val + q.val, by omega⟩ d k) := by
  refine congrArg W (funext fun a => ?_)
  fin_cases a
  · exact Fin.ext (show c.val * 2 + q.val = 2 * c.val + q.val by omega)
  · exact Fin.ext rfl
  · exact Fin.ext rfl

/-- The row of a kept token: the product of the token with its expert. -/
theorem row_eq (W : S16.Idx → Ideal .f32) (hE : ∀ j, E (ix2 j 0) = BitVec.ofNat 32 (e j).val) (c : Dev nD)
    (hx : xF m c = X) (hi : iF m c = E) (hw : wF m c = Layout.block (⟨3, ![2, 256, 512]⟩ : Shape) S16 0 8 c W)
    (j : Fin 50) (k i : Fin 512) (h : Hit e i c.val j.val) :
    yF m c (ix3 0 j k) = ∑ d : Fin 256, X (ix2 i d) * W (ix3 (e i) d k) := by
  have hd := slot_div e h.1
  have hs := h.2
  unfold yF
  rw [hx, hi, vw_eq]
  by_cases hj : j.val < 25
  · refine (row_first e E X _ _ hE c.val c.isLt ⟨j.val, hj⟩ k i h).trans (Finset.sum_congr rfl fun d _ => congrArg (_ * ·) ?_)
    rw [w0F_apply, hw, block_apply]
    exact congrArg (fun x => W (ix3 x d k)) (Fin.ext (show 2 * c.val + 0 = (e i).val by omega))
  · have hj' : j = ⟨25 + (j.val - 25), by omega⟩ := Fin.ext (by show j.val = 25 + (j.val - 25); omega)
    rw [hj'] at h ⊢
    refine (row_second e E X _ _ hE c.val c.isLt ⟨j.val - 25, by omega⟩ k i h).trans
      (Finset.sum_congr rfl fun d _ => congrArg (_ * ·) ?_)
    rw [w1F_apply, hw, block_apply]
    exact congrArg (fun x => W (ix3 x d k)) (Fin.ext (show 2 * c.val + 1 = (e i).val by omega))

end Cert.Exchange

end
-- ==== Proof.Picks.lean ====
/-
# 01_k — `Picks`: which rows a token picks, and what it gets by them

Over the extended reals, the picking arrays hold one at the column of a token's row and nought elsewhere, so
multiplying the blocks by them gives each kept token its row.
-/
module

public import proofs.«01_k».proof.Proof.Rows

@[expose] public section

noncomputable section

namespace Cert.Exchange

open Cert.KernelIdeal Cert.KernelIdeal.Gen
open Idealize.ShloMosaic Idealize.ShloMosaic.TcCoe

/-- A sum over 200 columns, as four sums over 50. -/
theorem sum_200 (f : Fin 200 → EReal) :
    ∑ x : Fin 200, f x = ∑ j : Fin 50, f ⟨j.val, by omega⟩ + ∑ j : Fin 50, f ⟨50 + j.val, by omega⟩
      + ∑ j : Fin 50, f ⟨50 + (50 + j.val), by omega⟩ + ∑ j : Fin 50, f ⟨50 + (50 + (50 + j.val)), by omega⟩ := by
  have h1 := Fin.sum_univ_add (a := 150) (b := 50) f
  have h2 := Fin.sum_univ_add (a := 100) (b := 50) fun x => f (Fin.castAdd 50 x)
  have h3 := Fin.sum_univ_add (a := 50) (b := 50) fun x => f (Fin.castAdd 50 (Fin.castAdd 50 x))
  refine h1.trans ?_
  rw [h2, h3]
  refine congrArg₂ (· + ·) (congrArg₂ (· + ·) rfl ?_) ?_
  · exact Finset.sum_congr rfl fun j _ => congrArg f (Fin.ext (show 100 + j.val = 50 + (50 + j.val) by omega))
  · exact Finset.sum_congr rfl fun j _ => congrArg f (Fin.ext (show 150 + j.val = 50 + (50 + (50 + j.val)) by omega))

variable (e : Fin 512 → Fin 16) (E : IVec S512x1 32)

/-- One if row `j` of device `p` is the token's, nought if not. -/
def pick (i : Fin 512) (p j : ℕ) : EReal := if Hit e i p j then 1 else 0

/-- A device's word with its number changed by `k + 1` is the word of its `k`-th peer. -/
theorem xor_px (c : Dev nD) (k : Fin 7) :
    Scalar.xori (BitVec.ofNat 32 c.val) (BitVec.ofNat 32 (k.val + 1)) = BitVec.ofNat 32 (px c k).val := by
  revert c k; decide

/-- The kernel's test of a column against a token's row, as a number. -/
theorem test_eq (hE : ∀ j, E (ix2 j 0) = BitVec.ofNat 32 (e j).val) (i : Fin 512) (j : Fin 50) (p : Dev nD) (w : BitVec 32)
    (hw : w = BitVec.ofNat 32 p.val) :
    (FloatOps.sitofp .f32 (BitVec.setWidth 32 (IntOp.cmpi .eq (BitVec.ofNat 32 j.val)
      (IntOp.subi (k0_pay1 (F := Ideal) E (ix2 i 0)) (Scalar.muli w 50#32)))) : Ideal .f32) = pick e i p.val j.val := by
  subst hw
  exact sitofp_bit _ _ _ (hit_word e E hE i p.val j.val p.isLt (by omega))

variable (m : (ℓ : Loc nD τ sig) → Buf (Elt Ideal) ℓ)

section Near
variable (hE : ∀ j, E (ix2 j 0) = BitVec.ofNat 32 (e j).val) (c : Dev nD) (hi : iF m c = E) (i : Fin 512) (j : Fin 50)
include hE hi

/-- The near picks of the device itself. -/
theorem near_0 : nearV m c (ix2 i ⟨j.val, by omega⟩) = pick e i c.val j.val := by
  unfold nearV placeV
  rw [hi, vw_eq]
  pointwise [k0_pay4]
  exact test_eq e E hE i j c _ rfl

/-- The near picks of the first peer. -/
theorem near_1 : nearV m c (ix2 i ⟨50 + j.val, by omega⟩) = pick e i (px c 0).val j.val := by
  unfold nearV placeV
  rw [hi, vw_eq]
  pointwise [k0_pay4]
  exact test_eq e E hE i j (px c 0) _ (xor_px c 0)

/-- The near picks of the third peer. -/
theorem near_2 : nearV m c (ix2 i ⟨50 + (50 + j.val), by omega⟩) = pick e i (px c 2).val j.val := by
  unfold nearV placeV
  rw [hi, vw_eq]
  pointwise [k0_pay4]
  exact test_eq e E hE i j (px c 2) _ (xor_px c 2)

/-- The near picks of the fourth peer. -/
theorem near_3 : nearV m c (ix2 i ⟨50 + (50 + (50 + j.val)), by omega⟩) = pick e i (px c 3).val j.val := by
  unfold nearV placeV
  rw [hi, vw_eq]
  pointwise [k0_pay4]
  exact test_eq e E hE i j (px c 3) _ (xor_px c 3)

/-- The far picks of the sixth peer. -/
theorem far_0 : farV m c (ix2 i ⟨j.val, by omega⟩) = pick e i (px c 5).val j.val := by
  unfold farV placeV
  rw [hi, vw_eq]
  pointwise [k0_pay7, k0_pay5, k0_pay6]
  exact test_eq e E hE i j (px c 5) _ (xor_px c 5)

/-- The far picks of the second peer. -/
theorem far_1 : farV m c (ix2 i ⟨50 + j.val, by omega⟩) = pick e i (px c 1).val j.val := by
  unfold farV placeV
  rw [hi, vw_eq]
  pointwise [k0_pay7, k0_pay5, k0_pay6]
  exact test_eq e E hE i j (px c 1) _ (xor_px c 1)

/-- The far picks of the fifth peer. -/
theorem far_2 : farV m c (ix2 i ⟨50 + (50 + j.val), by omega⟩) = pick e i (px c 4).val j.val := by
  unfold farV placeV
  rw [hi, vw_eq]
  pointwise [k0_pay7, k0_pay5, k0_pay6]
  exact test_eq e E hE i j (px c 4) _ (xor_px c 4)

/-- The far picks of the seventh peer. -/
theorem far_3 : farV m c (ix2 i ⟨50 + (50 + (50 + j.val)), by omega⟩) = pick e i (px c 6).val j.val := by
  unfold farV placeV
  rw [hi, vw_eq]
  pointwise [k0_pay7, k0_pay5, k0_pay6]
  exact test_eq e E hE i j (px c 6) _ (xor_px c 6)

end Near

/-- Multiplying four blocks by picks is four sums, one a block. -/
theorem near_sum (A : FVec Ideal S512x200 .bf16) (y0 y1 y2 y3 : FVec Ideal S1x50x512 .bf16) (i k : Fin 512) :
    k0_pay8 (F := Ideal) A y0 y1 y2 y3 (ix2 i k)
      = ∑ j : Fin 50, A (ix2 i ⟨j.val, by omega⟩) * y0 (ix3 0 j k) + ∑ j : Fin 50, A (ix2 i ⟨50 + j.val, by omega⟩) * y1 (ix3 0 j k)
        + ∑ j : Fin 50, A (ix2 i ⟨50 + (50 + j.val), by omega⟩) * y2 (ix3 0 j k)
        + ∑ j : Fin 50, A (ix2 i ⟨50 + (50 + (50 + j.val)), by omega⟩) * y3 (ix3 0 j k) := by
  pointwise [k0_pay8]
  rw [sum_200]
  pointwise []

/-- The far blocks add four more sums. -/
theorem far_sum (A : FVec Ideal S512x200 .bf16) (o : FVec Ideal S512x512 .f32) (y0 y1 y2 y3 : FVec Ideal S1x50x512 .bf16)
    (i k : Fin 512) :
    k0_pay10 (F := Ideal) (k0_pay9 (F := Ideal) A o y0 y1 y2 y3) (ix2 i k)
      = o (ix2 i k) + (∑ j : Fin 50, A (ix2 i ⟨j.val, by omega⟩) * y0 (ix3 0 j k) + ∑ j : Fin 50, A (ix2 i ⟨50 + j.val, by omega⟩) * y1 (ix3 0 j k)
        + ∑ j : Fin 50, A (ix2 i ⟨50 + (50 + j.val), by omega⟩) * y2 (ix3 0 j k)
        + ∑ j : Fin 50, A (ix2 i ⟨50 + (50 + (50 + j.val)), by omega⟩) * y3 (ix3 0 j k)) := by
  pointwise [k0_pay10, k0_pay9]
  rw [sum_200]
  pointwise []

end Cert.Exchange

end
-- ==== Proof.Out.lean ====
/-
# 01_k — `Out`: what a device's result holds

Over the extended reals, a kept token's row of the result is the product of the token with its expert, and a token
that isn't kept has noughts.
-/
module

public import proofs.«01_k».proof.Proof.Picks

@[expose] public section

noncomputable section

namespace Cert.Exchange

open Cert.KernelIdeal Cert.KernelIdeal.Gen
open Idealize.ShloMosaic Idealize.ShloMosaic.TcCoe

/-- A sum over the devices is the sum over one device and its seven peers. -/
theorem sum_devices (c : Dev nD) (f : Dev nD → EReal) :
    f c + f (px c 0) + f (px c 2) + f (px c 3) + (f (px c 5) + f (px c 1) + f (px c 4) + f (px c 6)) = ∑ p : Dev nD, f p := by
  have hs : ∑ p : Dev nD, f p = f (0 : Fin 8) + f (1 : Fin 8) + f (2 : Fin 8) + f (3 : Fin 8) + f (4 : Fin 8) + f (5 : Fin 8)
      + f (6 : Fin 8) + f (7 : Fin 8) := Fin.sum_univ_eight (M := EReal) f
  rw [hs]
  have key : ∀ c : Dev nD, ([c, px c 0, px c 2, px c 3, px c 5, px c 1, px c 4, px c 6] : List (Fin 8)).Perm [0, 1, 2, 3, 4, 5, 6, 7] := by
    decide
  have h := ((key c).map f).sum_eq
  simp only [List.map_cons, List.map_nil, List.sum_cons, List.sum_nil, add_zero] at h
  simp only [add_assoc]
  exact h

variable (e : Fin 512 → Fin 16) (E : IVec S512x1 32) (X : FVec Ideal S512x256 .f32) (W : S16.Idx → Ideal .f32)
variable (m : (ℓ : Loc nD τ sig) → Buf (Elt Ideal) ℓ)

/-- The product of token `i` with its expert. -/
def tokenV (i k : Fin 512) : EReal := ∑ d : Fin 256, X (ix2 i d) * W (ix3 (e i) d k)

/-- What device `p`'s block gives token `i`: its product if the token is kept there, nought if not. -/
def partV (i k : Fin 512) (p : Dev nD) : EReal := if rank e i ≤ 25 ∧ slot e i / 50 = p.val then tokenV e X W i k else 0

/-- Picking from a device's block. -/
theorem block_part (hE : ∀ j, E (ix2 j 0) = BitVec.ofNat 32 (e j).val) (p : Dev nD) (hx : xF m p = X) (hi : iF m p = E)
    (hw : wF m p = Layout.block (⟨3, ![2, 256, 512]⟩ : Shape) S16 0 8 p W) (i k : Fin 512) :
    ∑ j : Fin 50, pick e i p.val j.val * yF m p (ix3 0 j k) = partV e X W i k p := by
  unfold partV
  rw [← sum_rows e i p.val (tokenV e X W i k)]
  refine Finset.sum_congr rfl fun j _ => ?_
  unfold pick
  by_cases h : Hit e i p.val j.val
  · rw [row_eq e E X m W hE p hx hi hw j k i h]; rfl
  · rw [if_neg h, zero_mul, zero_mul]

/-- What all the blocks give token `i`. -/
theorem parts_sum (i k : Fin 512) : ∑ p : Dev nD, partV e X W i k p = if rank e i ≤ 25 then tokenV e X W i k else 0 := by
  unfold partV
  by_cases h : rank e i ≤ 25
  · have hlt : slot e i / 50 < 8 := by have := slot_div e h; have := (e i).isLt; omega
    rw [if_pos h, Finset.sum_eq_single (⟨slot e i / 50, hlt⟩ : Dev nD)]
    · rw [if_pos ⟨h, rfl⟩]
    · intro p _ hp
      exact if_neg fun hc => hp (Fin.ext hc.2.symm)
    · exact fun hn => absurd (Finset.mem_univ _) hn
  · rw [if_neg h]
    exact Finset.sum_eq_zero fun p _ => if_neg fun hc => h hc.1

/-- What a device's result holds. -/
theorem out_eq (hE : ∀ j, E (ix2 j 0) = BitVec.ofNat 32 (e j).val) (hx : ∀ c, xF m c = X) (hi : ∀ c, iF m c = E)
    (hw : ∀ c, wF m c = Layout.block (⟨3, ![2, 256, 512]⟩ : Shape) S16 0 8 c W) (c : Dev nD) (i k : Fin 512) :
    outF m c (ix2 i k) = if rank e i ≤ 25 then tokenV e X W i k else 0 := by
  have b := fun p => block_part e E X W m hE p (hx p) (hi p) (hw p) i k
  unfold outF allSum
  rw [far_sum]
  unfold nearSum
  rw [near_sum, ← parts_sum, ← sum_devices c, ← b c, ← b (px c 0), ← b (px c 2), ← b (px c 3), ← b (px c 5), ← b (px c 1),
    ← b (px c 4), ← b (px c 6)]
  simp only [near_0 e E m hE c (hi c), near_1 e E m hE c (hi c), near_2 e E m hE c (hi c), near_3 e E m hE c (hi c),
    far_0 e E m hE c (hi c), far_1 e E m hE c (hi c), far_2 e E m hE c (hi c), far_3 e E m hE c (hi c)]

end Cert.Exchange

end
-- ==== Proof.RefValue.lean ====
/-
# 01_k — `RefValue`: what the reference computes

Over the extended reals, the reference's result: a token with fewer than 25 earlier tokens of its expert has its
product with the expert, any other token has noughts.
-/
module

public import proofs.«01_k».proof.Proof.Gen.ReferenceIdeal.Run
public import proofs.«01_k».proof.Proof.Count
public import Idealize.ShloMosaic.Lib.Pointwise
public import Idealize.ShloMosaic.Lib.StableHlo.Predicate

@[expose] public section

noncomputable section

namespace Cert.Exchange.Ref

open Cert.ReferenceIdeal Cert.ReferenceIdeal.Gen
open Idealize.ShloMosaic Idealize.ShloMosaic.TcCoe

/-- Where an earlier token of the same expert stands. -/
def earlier (E : IVec S512x1 32) : IVec S512x512 1 :=
  andi (cmpi .eq (broadcastInDim S512x512 ![0, 1] bcast_S1x512_S512x512_0_1 (broadcastInDim S1x512 ![1] bcast_S512_S1x512_1 (shapeCast _ E shapeCasts_S512x1_S512))) (broadcastInDim S512x512 ![0, 1] bcast_S512x1_S512x512_0_1 (broadcastInDim S512x1 ![0] bcast_S512_S512x1_0 (shapeCast _ E shapeCasts_S512x1_S512)))) (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0))))

/-- How many earlier tokens of the same expert there are. -/
def countV (E : IVec S512x1 32) : IVec S512 32 :=
  Host.reduce IntOp.addi (extui 32 (earlier E) natLt_1_32) (constantI S_ 32 0#32) reducesTo_S512x512_S512_d1 h_S_

/-- The expert that each token reads. -/
def startV (E : IVec S512x1 32) : IVec S512x1 32 :=
  broadcastInDim S512x1 ![0] bcast_S512_S512x1_0 (select (cmpi .slt (shapeCast _ E shapeCasts_S512x1_S512) (broadcastInDim S512 ![] bcast_S_S512 (constantI S_ 32 0#32))) (addi (shapeCast _ E shapeCasts_S512x1_S512) (broadcastInDim S512 ![] bcast_S_S512 (constantI S_ 32 16#32))) (shapeCast _ E shapeCasts_S512x1_S512))

/-- The experts of the tokens. -/
def expertV (E : IVec S512x1 32) (W : FVec Ideal S16x256x512 .f32) : FVec Ideal S512x256x512 .f32 :=
  Host.gather gather_S16x256x512_S512x1_S512x256x512_12_0_n_n_0_1_1256512 W (startV E)

/-- The products. -/
def productV (X : FVec Ideal S512x256 .f32) (E : IVec S512x1 32) (W : FVec Ideal S16x256x512 .f32) : FVec Ideal S512x512 .f32 :=
  Host.dotGeneral dot_S512x256_S512x256x512_S512x512_1_1_n_2_0_0 none X (expertV E W)

/-- The reference's result. -/
def refV (X : FVec Ideal S512x256 .f32) (E : IVec S512x1 32) (W : FVec Ideal S16x256x512 .f32) : FVec Ideal S512x512 .f32 :=
  select (broadcastInDim S512x512 ![0, 1] bcast_S512x1_S512x512_0_1 (broadcastInDim S512x1 ![0] bcast_S512_S512x1_0 (cmpi .slt (countV E) (broadcastInDim S512 ![] bcast_S_S512 (constantI S_ 32 25#32))))) (productV X E W) (broadcastInDim S512x512 ![] bcast_S_S512x512 (id (constant S_ .f32 0x00000000#32)))

/-- A small word as a signed number. -/
theorem word_toInt (n : ℕ) (h : n < 1000) : (BitVec.ofNat 32 n).toInt = (n : ℤ) := by
  rw [BitVec.toInt_eq_toNat_cond, BitVec.toNat_ofNat, Nat.mod_eq_of_lt (by omega), if_pos (by omega)]

/-- Comparing small words is comparing the numbers. -/
theorem slt_word (a b : ℕ) (ha : a < 1000) (hb : b < 1000) : IntOp.cmpi .slt (BitVec.ofNat 32 a) (BitVec.ofNat 32 b) = 1#1 ↔ a < b := by
  have hbit : ∀ x : Bool, BitVec.ofBool x = 1#1 ↔ x = true := by decide
  rw [show IntOp.cmpi .slt (BitVec.ofNat 32 a) (BitVec.ofNat 32 b) = BitVec.ofBool ((BitVec.ofNat 32 a).slt (BitVec.ofNat 32 b)) from rfl,
    hbit, BitVec.slt_iff_toInt_lt, word_toInt a ha, word_toInt b hb]
  exact Int.ofNat_lt

/-- The gather of the experts, at an element. -/
theorem gather_apply (W : FVec Ideal S16x256x512 .f32) (idx : IVec S512x1 32) (i : Fin 512) (d : Fin 256) (k : Fin 512) :
    Host.gather gather_S16x256x512_S512x1_S512x256x512_12_0_n_n_0_1_1256512 W idx (ix3 i d k)
      = W (ix3 ⟨min (idx (ix2 i 0)).toInt.toNat 15, by omega⟩ d k) := by
  refine congrArg W (funext fun a => Fin.ext ?_)
  fin_cases a
  · show _ + _ + _ = min (idx (ix2 i 0)).toInt.toNat 15
    rw [GatherDims.batchCoord_eq_zero _ _ _ (by decide), GatherDims.offCoord_eq_zero _ _ _ (by decide)]
    simp only [Nat.add_zero]
    unfold GatherDims.start
    rw [dif_pos (by decide)]
    have hs : gather_S16x256x512_S512x1_S512x256x512_12_0_n_n_0_1_1256512.siIdx (ix3 i d k) ⟨List.idxOf (0 : Fin 3) gather_S16x256x512_S512x1_S512x256x512_12_0_n_n_0_1_1256512.startIndexMap, by decide⟩ = ix2 i 0 := by
      funext b
      fin_cases b
      · exact Fin.ext rfl
      · exact Fin.ext rfl
    exact congrArg (fun x => min (idx x).toInt.toNat 15) hs
  · show _ + _ + _ = d.val
    rw [GatherDims.batchCoord_eq_zero _ _ _ (by decide)]
    unfold GatherDims.start
    rw [dif_neg (by decide)]
    simp only [Nat.zero_add]
    rfl
  · show _ + _ + _ = k.val
    rw [GatherDims.batchCoord_eq_zero _ _ _ (by decide)]
    unfold GatherDims.start
    rw [dif_neg (by decide)]
    simp only [Nat.zero_add]
    rfl

variable (e : Fin 512 → Fin 16) (X : FVec Ideal S512x256 .f32) (E : IVec S512x1 32) (W : FVec Ideal S16x256x512 .f32)

section Read
variable (hE : ∀ j, E (ix2 j 0) = BitVec.ofNat 32 (e j).val)
include hE

/-- A token's expert isn't changed. -/
theorem startV_apply (i : Fin 512) : startV E (ix2 i 0) = BitVec.ofNat 32 (e i).val := by
  pointwise [startV]
  rw [hE]
  generalize e i = x
  revert x
  decide

/-- A token's expert's weights. -/
theorem expertV_apply (i : Fin 512) (d : Fin 256) (k : Fin 512) : expertV E W (ix3 i d k) = W (ix3 (e i) d k) := by
  unfold expertV
  rw [gather_apply]
  refine congrArg (fun x => W (ix3 x d k)) (Fin.ext ?_)
  show min (startV E (ix2 i 0)).toInt.toNat 15 = (e i).val
  rw [startV_apply e E hE, word_toInt _ (by omega), Int.toNat_natCast]
  omega

/-- A token's product. -/
theorem productV_apply (i k : Fin 512) : productV X E W (ix2 i k) = ∑ d : Fin 256, X (ix2 i d) * W (ix3 (e i) d k) := by
  pointwise [productV]
  exact Finset.sum_congr rfl fun d _ => congrArg (_ * ·) (expertV_apply e E W hE i d k)

/-- Where an earlier token of the same expert stands. -/
theorem earlier_iff (i j : Fin 512) : earlier E (ix2 i j) = 1#1 ↔ j < i ∧ e j = e i := by
  pointwise [earlier]
  rw [hE, hE]
  have h1 : IntOp.cmpi .eq (BitVec.ofNat 32 (e j).val) (BitVec.ofNat 32 (e i).val) = 1#1 ↔ e j = e i := by
    generalize e i = x
    generalize e j = y
    revert x y
    decide
  have h2 := slt_word j.val i.val (by omega) (by omega)
  have h3 : ∀ a b : BitVec 1, IntOp.andi a b = 1#1 ↔ a = 1#1 ∧ b = 1#1 := by decide
  rw [h3, h1, h2, and_comm]
  exact Iff.rfl

/-- The count is of the earlier tokens of the same expert. -/
theorem countV_apply (i : Fin 512) : countV E (ix1 i) = BitVec.ofNat 32 (ahead e i) := by
  apply BitVec.eq_of_toNat_eq
  have h := StableHlo.Predicate.toNat_reduce_count_cols (n := 512) (m := 512) (by omega) (earlier E) natLt_1_32
    reducesTo_S512x512_S512_d1 h_S_ (ix1 i)
  have hb : ahead e i = (Finset.univ.filter fun q : Fin 512 => earlier E (StableHlo.Predicate.ij i q) = 1#1).card := by
    unfold ahead
    refine congrArg Finset.card (Finset.ext fun q => ?_)
    rw [Finset.mem_filter, Finset.mem_filter]
    exact and_congr_right fun _ => (earlier_iff e E hE i q).symm
  have hl : ahead e i < 2 ^ 32 := by have := rank_eq e i; have := rank_le e i; omega
  rw [BitVec.toNat_ofNat, Nat.mod_eq_of_lt hl, hb]
  exact h

/-- What the reference's result holds. -/
theorem refV_apply (i k : Fin 512) :
    refV X E W (ix2 i k) = if rank e i ≤ 25 then ∑ d : Fin 256, X (ix2 i d) * W (ix3 (e i) d k) else 0 := by
  pointwise [refV]
  rw [productV_apply e X E W hE, countV_apply e E hE]
  have hr := rank_eq e i
  have hl := rank_le e i
  have h := slt_word (ahead e i) 25 (by omega) (by omega)
  show (if IntOp.cmpi .slt (BitVec.ofNat 32 (ahead e i)) 25#32 = 1#1 then _ else _) = _
  refine if_congr (h.trans (by omega)) rfl ?_
  exact Ideal.ofBits_zero .f32

end Read

end Cert.Exchange.Ref

end
-- ==== Proof.Value.lean ====
/-
# 01_k — `Value`: the kernel computes what the reference computes

Every device's result is the reference's result, over the extended reals, when every token asks for one of the
sixteen experts.
-/
module

public import proofs.«01_k».proof.Defs
public import proofs.«01_k».proof.Proof.Gen.Pre_routed_KernelIdeal
public import proofs.«01_k».proof.Proof.Launch
public import proofs.«01_k».proof.Proof.Out
public import proofs.«01_k».proof.Proof.RefValue
public import Idealize.ShloMosaic.Lib.ReduceAll

@[expose] public section

noncomputable section

namespace Cert.Exchange

open Idealize.ShloMosaic Idealize.ShloMosaic.TcCoe Idealize.SL.Sem

/-- A word that is at least nought and below sixteen is the word of one of sixteen numbers. -/
theorem word_of_bounds (b : BitVec 32) (h : IntOp.andi (IntOp.cmpi .sge b 0#32) (IntOp.cmpi .slt b 16#32) = 1#1) :
    ∃ n : Fin 16, b = BitVec.ofNat 32 n.val := by
  have hand : ∀ a b : BitVec 1, IntOp.andi a b = 1#1 → a = 1#1 ∧ b = 1#1 := by decide
  have hbit : ∀ x : Bool, BitVec.ofBool x = 1#1 → x = true := by decide
  obtain ⟨h1, h2⟩ := hand _ _ h
  have h1 : (0#32).sle b = true := hbit _ h1
  have h2 : b.slt 16#32 = true := hbit _ h2
  rw [BitVec.sle_iff_toInt_le] at h1
  rw [BitVec.slt_iff_toInt_lt] at h2
  have e0 : (0#32).toInt = 0 := by decide
  have e16 : (16#32).toInt = 16 := by decide
  rw [e0] at h1
  rw [e16] at h2
  refine ⟨⟨b.toInt.toNat, by omega⟩, BitVec.eq_of_toInt_eq ?_⟩
  rw [Ref.word_toInt _ (by omega)]
  show b.toInt = ((b.toInt.toNat : ℕ) : ℤ)
  omega

/-- The precondition read back: every token asks for one of the sixteen experts. -/
theorem routed_experts [Cert.Pre_routed_KernelIdeal.Facts] (x : FVec Ideal Cert.Pre_routed_KernelIdeal.S512x256 .f32)
    (g : FVec Ideal Cert.Pre_routed_KernelIdeal.S256x16 .f32) (E : IVec Cert.Pre_routed_KernelIdeal.S512x1 32)
    (w : FVec Ideal Cert.Pre_routed_KernelIdeal.S2x256x512 .f32)
    (h : Cert.Pre_routed_KernelIdeal.fn (F := Ideal) x g E w = fun _ => 1#1) :
    ∃ e : Fin 512 → Fin 16, ∀ j, E (ix2 j 0) = BitVec.ofNat 32 (e j).val := by
  have hs : Subsingleton Cert.Pre_routed_KernelIdeal.S_.Idx := ⟨fun a b => funext fun i => i.elim0⟩
  have key := Host.reduce_andi_all _ _ _ _ ix0 (congrFun h ix0)
  choose e he using fun j : Fin 512 => word_of_bounds (E (ix2 j 0)) (key (ix2 j 0))
  exact ⟨e, he⟩

/-- A device's result, as an array, is the reference's result. -/
theorem out_ref (e : Fin 512 → Fin 16) (X : FVec Ideal Cert.KernelIdeal.S512x256 .f32) (E : IVec Cert.KernelIdeal.S512x1 32)
    (W : S16.Idx → Ideal .f32) (m : (ℓ : Loc Cert.KernelIdeal.nD Cert.KernelIdeal.τ Cert.KernelIdeal.sig) → Buf (Elt Ideal) ℓ)
    (hE : ∀ j, E (ix2 j 0) = BitVec.ofNat 32 (e j).val) (hx : ∀ c, xF m c = X) (hi : ∀ c, iF m c = E)
    (hw : ∀ c, wF m c = Layout.block (⟨3, ![2, 256, 512]⟩ : Shape) S16 0 8 c W) (c : Dev Cert.KernelIdeal.nD) :
    outF m c = Ref.refV X E W := by
  funext i
  obtain ⟨a, k, rfl⟩ : ∃ (a : Fin 512) (k : Fin 512), i = ix2 a k := ⟨i 0, i 1, eq_ix2 i⟩
  exact (out_eq e E X W m hE hx hi hw c a k).trans (Ref.refV_apply e X E W hE a k).symm

/-- Every device's result is the reference's result. -/
theorem value : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m g m' g' hpre hargs
  obtain ⟨e, hE⟩ := routed_experts _ _ _ _ (hpre 0)
  refine ⟨Ref.refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (run_main (F := Ideal) m g)
    obtain ⟨h0, h1, h2, h3, ho⟩ := h.1 c
    refine ⟨ho.trans ?_, h0, h1, h2, h3⟩
    exact out_ref e _ _ _ m (fun j => (congrFun (hargs 0).2.2.1 (ix2 j 0)).symm.trans (hE j)) (fun c => (hargs c).1)
      (fun c => (hargs c).2.2.1) (fun c => (hargs c).2.2.2) c
  · exact (θ_run Cert.ReferenceIdeal.defs _ _).mono (fun r h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed_KernelIdeal
public import proofs.«01_k».proof.Proof.Gen.Pre_routed_ReferenceIdeal
public import proofs.«01_k».proof.Proof.Frames
public import proofs.«01_k».proof.Proof.Value

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, Cert.Exchange.frame_kernel, Cert.Exchange.frame_ideal, Cert.Exchange.frame_ideal_pre,
    Cert.Exchange.frame_reference, Cert.Exchange.frame_reference_pre, trivial, Cert.Exchange.value⟩

end Cert.Proof

end
